-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_v_scale_ok [hPre_v_scale_ok : Cert.Pre_v_scale_ok.Facts] (m : (ℓ : Loc Cert.KernelIdeal.nD Cert.KernelIdeal.τ Cert.KernelIdeal.sig) → Buf (Elt Ideal) ℓ) : Prop :=
  ∀ c : Dev Cert.KernelIdeal.nD,
    (Cert.Pre_v_scale_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_v_scale_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_v_scale_ok [hPre_v_scale_ok : Cert.Pre_v_scale_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_v_scale_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_v_scale_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_v_scale_ok [hKernelIdeal : Cert.KernelIdeal.Facts] [hPre_v_scale_ok : Cert.Pre_v_scale_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_v_scale_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_v_scale_ok [hReferenceIdeal : Cert.ReferenceIdeal.Facts] [hPre_v_scale_ok : Cert.Pre_v_scale_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_v_scale_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_v_scale_ok [hKernelIdeal : Cert.KernelIdeal.Facts] [hReferenceIdeal : Cert.ReferenceIdeal.Facts] [hPre_v_scale_ok : Cert.Pre_v_scale_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_v_scale_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v2_0) = v1 c
          ∧ r.2.mem ((c.tc : Thread Cert.ReferenceIdeal.nD Cert.ReferenceIdeal.τ).loc Cert.ReferenceIdeal.main_v2_1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_v_scale_ok : Cert.Pre_v_scale_ok.Facts),
    quiescent_Kernel (hKernel := hKernel)
    ∧ quiescent_KernelIdeal (hKernelIdeal := hKernelIdeal)
    ∧ quiescent_KernelIdeal_pre_v_scale_ok (hKernelIdeal := hKernelIdeal) (hPre_v_scale_ok := hPre_v_scale_ok)
    ∧ quiescent_ReferenceIdeal (hReferenceIdeal := hReferenceIdeal)
    ∧ quiescent_ReferenceIdeal_pre_v_scale_ok (hReferenceIdeal := hReferenceIdeal) (hPre_v_scale_ok := hPre_v_scale_ok)
    ∧ preserves_Kernel_KernelIdeal
    ∧ algebraic_KernelIdeal_ReferenceIdeal_pre_v_scale_ok (hKernelIdeal := hKernelIdeal) (hReferenceIdeal := hReferenceIdeal) (hPre_v_scale_ok := hPre_v_scale_ok)
-- ==== Pre_v_scale_ok.lean ====
abbrev S192x12x7680 : Shape := ⟨3, ![192, 12, 7680]⟩
abbrev S192x12x6x160 : Shape := ⟨4, ![192, 12, 6, 160]⟩
abbrev S192x1536x6x160 : Shape := ⟨4, ![192, 1536, 6, 160]⟩
abbrev S6 : Shape := ⟨1, ![6]⟩
abbrev S192 : Shape := ⟨1, ![192]⟩
abbrev S_ : Shape := ⟨0, ![]⟩

class Facts : Prop where
  bcast_S_S6 : S_.BroadcastsInDim S6 (![] : Fin 0 → Fin S6.rank)

variable [Facts]

def fn {F : FTy → Type} [FloatOps F] (main_arg0 : FVec F S192x12x7680 .bf16) (main_arg1 : FVec F S192x12x6x160 .bf16) (main_arg2 : FVec F S192x12x6x160 .bf16) (main_arg3 : FVec F S192x1536x6x160 .fp8e4m3) (main_arg4 : FVec F S192x1536x6x160 .fp8e4m3) (main_arg5 : FVec F S6 .f32) (main_arg6 : FVec F S6 .f32) (main_arg7 : IVec S192 32) : IVec S6 1 × IVec S6 1 :=
  let main_cst : FVec F S_ .f32 := constant S_ .f32 0x00000000#32
  let main_v0 : FVec F S6 .f32 := broadcastInDim S6 ![] bcast_S_S6 main_cst
  let main_v1 : IVec S6 1 := cmpf .oge main_arg6 main_v0
  let main_cst_0 : FVec F S_ .f32 := constant S_ .f32 0x7F800000#32
  let main_v2 : FVec F S6 .f32 := broadcastInDim S6 ![] bcast_S_S6 main_cst_0
  let main_v3 : IVec S6 1 := cmpf .olt main_arg6 main_v2
  (main_v1, main_v3)
-- ==== Kernel.lean ====
abbrev S192x12x7680 : Shape := ⟨3, ![192, 12, 7680]⟩
abbrev S192x12x6x160 : Shape := ⟨4, ![192, 12, 6, 160]⟩
abbrev S192x1536x6x160 : Shape := ⟨4, ![192, 1536, 6, 160]⟩
abbrev S6 : Shape := ⟨1, ![6]⟩
abbrev S192 : Shape := ⟨1, ![192]⟩
abbrev S1x6 : Shape := ⟨2, ![1, 6]⟩
abbrev S2x6 : Shape := ⟨2, ![2, 6]⟩
abbrev S12x6x160x192 : Shape := ⟨4, ![12, 6, 160, 192]⟩
abbrev S1x6x160x192 : Shape := ⟨4, ![1, 6, 160, 192]⟩
abbrev S1x1 : Shape := ⟨2, ![1, 1]⟩
abbrev S1x1x160x192 : Shape := ⟨4, ![1, 1, 160, 192]⟩
abbrev S160x192 : Shape := ⟨2, ![160, 192]⟩
abbrev S192x12x6x8x160 : Shape := ⟨5, ![192, 12, 6, 8, 160]⟩
abbrev S192x6x12x8x160 : Shape := ⟨5, ![192, 6, 12, 8, 160]⟩
abbrev S192x6x96x160 : Shape := ⟨4, ![192, 6, 96, 160]⟩
abbrev S192x6x160x1536 : Shape := ⟨4, ![192, 6, 160, 1536]⟩
abbrev S192x6x160x12 : Shape := ⟨4, ![192, 6, 160, 12]⟩
abbrev S1x6x96x160 : Shape := ⟨4, ![1, 6, 96, 160]⟩
abbrev S1x6x160x1536 : Shape := ⟨4, ![1, 6, 160, 1536]⟩
abbrev S1x6x160x12 : Shape := ⟨4, ![1, 6, 160, 12]⟩
abbrev S1 : Shape := ⟨1, ![1]⟩
abbrev S1x1x96x160 : Shape := ⟨4, ![1, 1, 96, 160]⟩
abbrev S96x160 : Shape := ⟨2, ![96, 160]⟩
abbrev S1x1x160x1536 : Shape := ⟨4, ![1, 1, 160, 1536]⟩
abbrev S160x1536 : Shape := ⟨2, ![160, 1536]⟩
abbrev S96x1536 : Shape := ⟨2, ![96, 1536]⟩
abbrev S1x1x160x12 : Shape := ⟨4, ![1, 1, 160, 12]⟩
abbrev S160x12 : Shape := ⟨2, ![160, 12]⟩
abbrev S96x12 : Shape := ⟨2, ![96, 12]⟩
abbrev S96 : Shape := ⟨1, ![96]⟩
abbrev S96x1 : Shape := ⟨2, ![96, 1]⟩

abbrev nBuf : Space → Nat
  | .hbm => 28
  | .vmem => 20
  | .smem => 3
  | _ => 0

abbrev bufTy : (tb : Table) → Fin (tcTables nBuf tb) → BufTy
  | .hbm, ⟨0, _⟩ => ⟨S192x12x7680, .bf16⟩
  | .hbm, ⟨1, _⟩ => ⟨S192x12x6x160, .bf16⟩
  | .hbm, ⟨2, _⟩ => ⟨S192x12x6x160, .bf16⟩
  | .hbm, ⟨3, _⟩ => ⟨S192x1536x6x160, .fp8e4m3⟩
  | .hbm, ⟨4, _⟩ => ⟨S192x1536x6x160, .fp8e4m3⟩
  | .hbm, ⟨5, _⟩ => ⟨S6, .f32⟩
  | .hbm, ⟨6, _⟩ => ⟨S6, .f32⟩
  | .hbm, ⟨7, _⟩ => ⟨S192, .i32⟩
  | .hbm, ⟨8, _⟩ => ⟨S1x6, .f32⟩
  | .hbm, ⟨9, _⟩ => ⟨S1x6, .f32⟩
  | .hbm, ⟨10, _⟩ => ⟨S2x6, .f32⟩
  | .hbm, ⟨11, _⟩ => ⟨S12x6x160x192, .bf16⟩
  | .hbm, ⟨12, _⟩ => ⟨S12x6x160x192, .bf16⟩
  | .hbm, ⟨13, _⟩ => ⟨S12x6x160x192, .fp8e4m3⟩
  | .hbm, ⟨14, _⟩ => ⟨S12x6x160x192, .fp8e4m3⟩
  | .hbm, ⟨15, _⟩ => ⟨S192x12x6x8x160, .bf16⟩
  | .hbm, ⟨16, _⟩ => ⟨S192x6x12x8x160, .bf16⟩
  | .hbm, ⟨17, _⟩ => ⟨S192x6x96x160, .bf16⟩
  | .hbm, ⟨18, _⟩ => ⟨S192x6x160x1536, .fp8e4m3⟩
  | .hbm, ⟨19, _⟩ => ⟨S192x6x160x1536, .fp8e4m3⟩
  | .hbm, ⟨20, _⟩ => ⟨S192x6x160x12, .fp8e4m3⟩
  | .hbm, ⟨21, _⟩ => ⟨S192x6x160x12, .fp8e4m3⟩
  | .hbm, ⟨22, _⟩ => ⟨S192x6x96x160, .bf16⟩
  | .hbm, ⟨23, _⟩ => ⟨S192x6x12x8x160, .bf16⟩
  | .hbm, ⟨24, _⟩ => ⟨S192x12x6x8x160, .bf16⟩
  | .hbm, ⟨25, _⟩ => ⟨S192x12x7680, .bf16⟩
  | .hbm, ⟨26, _⟩ => ⟨S192x12x6x160, .fp8e4m3⟩
  | .hbm, ⟨27, _⟩ => ⟨S192x12x6x160, .fp8e4m3⟩
  | .local _ .vmem, ⟨0, _⟩ => ⟨S1x6x160x192, .bf16⟩
  | .local _ .vmem, ⟨1, _⟩ => ⟨S1x6x160x192, .bf16⟩
  | .local _ .vmem, ⟨2, _⟩ => ⟨S1x6x160x192, .bf16⟩
  | .local _ .vmem, ⟨3, _⟩ => ⟨S1x6x160x192, .bf16⟩
  | .local _ .vmem, ⟨4, _⟩ => ⟨S1x6x160x192, .fp8e4m3⟩
  | .local _ .vmem, ⟨5, _⟩ => ⟨S1x6x160x192, .fp8e4m3⟩
  | .local _ .vmem, ⟨6, _⟩ => ⟨S1x6x160x192, .fp8e4m3⟩
  | .local _ .vmem, ⟨7, _⟩ => ⟨S1x6x160x192, .fp8e4m3⟩
  | .local _ .vmem, ⟨8, _⟩ => ⟨S1x6x96x160, .bf16⟩
  | .local _ .vmem, ⟨9, _⟩ => ⟨S1x6x96x160, .bf16⟩
  | .local _ .vmem, ⟨10, _⟩ => ⟨S1x6x160x1536, .fp8e4m3⟩
  | .local _ .vmem, ⟨11, _⟩ => ⟨S1x6x160x1536, .fp8e4m3⟩
  | .local _ .vmem, ⟨12, _⟩ => ⟨S1x6x160x1536, .fp8e4m3⟩
  | .local _ .vmem, ⟨13, _⟩ => ⟨S1x6x160x1536, .fp8e4m3⟩
  | .local _ .vmem, ⟨14, _⟩ => ⟨S1x6x160x12, .fp8e4m3⟩
  | .local _ .vmem, ⟨15, _⟩ => ⟨S1x6x160x12, .fp8e4m3⟩
  | .local _ .vmem, ⟨16, _⟩ => ⟨S1x6x160x12, .fp8e4m3⟩
  | .local _ .vmem, ⟨17, _⟩ => ⟨S1x6x160x12, .fp8e4m3⟩
  | .local _ .vmem, ⟨18, _⟩ => ⟨S1x6x96x160, .bf16⟩
  | .local _ .vmem, ⟨19, _⟩ => ⟨S1x6x96x160, .bf16⟩
  | .local _ .smem, ⟨0, _⟩ => ⟨S2x6, .f32⟩
  | .local _ .smem, ⟨1, _⟩ => ⟨S192, .i32⟩
  | .local _ .smem, ⟨2, _⟩ => ⟨S2x6, .f32⟩
  | _, _ => ⟨S192x12x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc0_stg0_0 : Ref sig .tc := ⟨.smem, 0, rfl⟩
abbrev cc1_stg0_0 : Ref sig .tc := ⟨.smem, 1, rfl⟩
abbrev cc1_stg1_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S2x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x6x160x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x160x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x160x192 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x160x192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![192], ![false]⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 1 → Memref sig .tc .smem S192 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S2x6 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x6x96x160 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x6x160x1536 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x6x160x1536 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x6x160x12 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x6x160x12 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x6x96x160 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S192x12x7680 : Shape := ⟨3, ![192, 12, 7680]⟩
abbrev S192x12x6x160 : Shape := ⟨4, ![192, 12, 6, 160]⟩
abbrev S192x1536x6x160 : Shape := ⟨4, ![192, 1536, 6, 160]⟩
abbrev S6 : Shape := ⟨1, ![6]⟩
abbrev S192 : Shape := ⟨1, ![192]⟩
abbrev S6x1 : Shape := ⟨2, ![6, 1]⟩
abbrev S1x1x6x1 : Shape := ⟨4, ![1, 1, 6, 1]⟩
abbrev S192x12x6x8x160 : Shape := ⟨5, ![192, 12, 6, 8, 160]⟩
abbrev S192x6x12x8x160 : Shape := ⟨5, ![192, 6, 12, 8, 160]⟩
abbrev S192x6x96x160 : Shape := ⟨4, ![192, 6, 96, 160]⟩
abbrev S1x6x1x1 : Shape := ⟨4, ![1, 6, 1, 1]⟩
abbrev S192x6x96x1536 : Shape := ⟨4, ![192, 6, 96, 1536]⟩
abbrev S_ : Shape := ⟨0, ![]⟩
abbrev S192x6x96x12 : Shape := ⟨4, ![192, 6, 96, 12]⟩
abbrev S1536 : Shape := ⟨1, ![1536]⟩
abbrev S1x1536 : Shape := ⟨2, ![1, 1536]⟩
abbrev S192x1 : Shape := ⟨2, ![192, 1]⟩
abbrev S192x1536 : Shape := ⟨2, ![192, 1536]⟩
abbrev S12 : Shape := ⟨1, ![12]⟩
abbrev S1x12 : Shape := ⟨2, ![1, 12]⟩
abbrev S96 : Shape := ⟨1, ![96]⟩
abbrev S96x1 : Shape := ⟨2, ![96, 1]⟩
abbrev S96x12 : Shape := ⟨2, ![96, 12]⟩
abbrev S192x1x1x1536 : Shape := ⟨4, ![192, 1, 1, 1536]⟩
abbrev S1x1x96x12 : Shape := ⟨4, ![1, 1, 96, 12]⟩
abbrev S192x6x96 : Shape := ⟨3, ![192, 6, 96]⟩
abbrev S192x6x96x1 : Shape := ⟨4, ![192, 6, 96, 1]⟩

abbrev nBuf : Space → Nat
  | .hbm => 120
  | .vmem => 12
  | .smem => 0
  | _ => 0

abbrev bufTy : (tb : Table) → Fin (tcTables nBuf tb) → BufTy
  | .hbm, ⟨0, _⟩ => ⟨S192x12x7680, .bf16⟩
  | .hbm, ⟨1, _⟩ => ⟨S192x12x6x160, .bf16⟩
  | .hbm, ⟨2, _⟩ => ⟨S192x12x6x160, .bf16⟩
  | .hbm, ⟨3, _⟩ => ⟨S192x1536x6x160, .fp8e4m3⟩
  | .hbm, ⟨4, _⟩ => ⟨S192x1536x6x160, .fp8e4m3⟩
  | .hbm, ⟨5, _⟩ => ⟨S6, .f32⟩
  | .hbm, ⟨6, _⟩ => ⟨S6, .f32⟩
  | .hbm, ⟨7, _⟩ => ⟨S192, .i32⟩
  | .hbm, ⟨8, _⟩ => ⟨S6x1, .f32⟩
  | .hbm, ⟨9, _⟩ => ⟨S6x1, .f32⟩
  | .hbm, ⟨10, _⟩ => ⟨S192x12x6x160, .fp8e4m3⟩
  | .hbm, ⟨11, _⟩ => ⟨S192x12x6x160, .fp8e4m3⟩
  | .hbm, ⟨12, _⟩ => ⟨S192x12x6x160, .bf16⟩
  | .hbm, ⟨13, _⟩ => ⟨S192x12x6x160, .bf16⟩
  | .hbm, ⟨14, _⟩ => ⟨S192x1536x6x160, .bf16⟩
  | .hbm, ⟨15, _⟩ => ⟨S192x1536x6x160, .bf16⟩
  | .hbm, ⟨16, _⟩ => ⟨S192x12x6x8x160, .bf16⟩
  | .hbm, ⟨17, _⟩ => ⟨S192x6x12x8x160, .bf16⟩
  | .hbm, ⟨18, _⟩ => ⟨S192x6x96x160, .bf16⟩
  | .hbm, ⟨19, _⟩ => ⟨S1x6x1x1, .f32⟩
  | .hbm, ⟨20, _⟩ => ⟨S1x6x1x1, .f32⟩
  | .hbm, ⟨21, _⟩ => ⟨S192x6x96x1536, .f32⟩
  | .hbm, ⟨22, _⟩ => ⟨S192x6x96x1536, .f32⟩
  | .hbm, ⟨23, _⟩ => ⟨S192x6x96x1536, .f32⟩
  | .hbm, ⟨24, _⟩ => ⟨S_, .f32⟩
  | .hbm, ⟨25, _⟩ => ⟨S192x6x96x1536, .f32⟩
  | .hbm, ⟨26, _⟩ => ⟨S192x6x96x1536, .f32⟩
  | .hbm, ⟨27, _⟩ => ⟨S192x6x96x12, .f32⟩
  | .hbm, ⟨28, _⟩ => ⟨S192x6x96x12, .f32⟩
  | .hbm, ⟨29, _⟩ => ⟨S192x6x96x12, .f32⟩
  | .hbm, ⟨30, _⟩ => ⟨S_, .f32⟩
  | .hbm, ⟨31, _⟩ => ⟨S192x6x96x12, .f32⟩
  | .hbm, ⟨32, _⟩ => ⟨S192x6x96x12, .f32⟩
  | .hbm, ⟨33, _⟩ => ⟨S1536, .i32⟩
  | .hbm, ⟨34, _⟩ => ⟨S1x1536, .i32⟩
  | .hbm, ⟨35, _⟩ => ⟨S192x1, .i32⟩
  | .hbm, ⟨36, _⟩ => ⟨S192x1536, .i32⟩
  | .hbm, ⟨37, _⟩ => ⟨S192x1536, .i32⟩
  | .hbm, ⟨38, _⟩ => ⟨S192x1536, .i1⟩
  | .hbm, ⟨39, _⟩ => ⟨S12, .i32⟩
  | .hbm, ⟨40, _⟩ => ⟨S1x12, .i32⟩
  | .hbm, ⟨41, _⟩ => ⟨S96, .i32⟩
  | .hbm, ⟨42, _⟩ => ⟨S_, .i32⟩
  | .hbm, ⟨43, _⟩ => ⟨S_, .i32⟩
  | .hbm, ⟨44, _⟩ => ⟨S96, .i32⟩
  | .hbm, ⟨45, _⟩ => ⟨S96, .i32⟩
  | .hbm, ⟨46, _⟩ => ⟨S96, .i32⟩
  | .hbm, ⟨47, _⟩ => ⟨S_, .i32⟩
  | .hbm, ⟨48, _⟩ => ⟨S96, .i32⟩
  | .hbm, ⟨49, _⟩ => ⟨S96, .i1⟩
  | .hbm, ⟨50, _⟩ => ⟨S96, .i32⟩
  | .hbm, ⟨51, _⟩ => ⟨S96, .i32⟩
  | .hbm, ⟨52, _⟩ => ⟨S_, .i32⟩
  | .hbm, ⟨53, _⟩ => ⟨S96, .i32⟩
  | .hbm, ⟨54, _⟩ => ⟨S96, .i1⟩
  | .hbm, ⟨55, _⟩ => ⟨S96, .i1⟩
  | .hbm, ⟨56, _⟩ => ⟨S_, .i32⟩
  | .hbm, ⟨57, _⟩ => ⟨S96, .i32⟩
  | .hbm, ⟨58, _⟩ => ⟨S96, .i32⟩
  | .hbm, ⟨59, _⟩ => ⟨S96, .i32⟩
  | .hbm, ⟨60, _⟩ => ⟨S96x1, .i32⟩
  | .hbm, ⟨61, _⟩ => ⟨S96x12, .i32⟩
  | .hbm, ⟨62, _⟩ => ⟨S96x12, .i32⟩
  | .hbm, ⟨63, _⟩ => ⟨S96x12, .i1⟩
  | .hbm, ⟨64, _⟩ => ⟨S192x1x1x1536, .i1⟩
  | .hbm, ⟨65, _⟩ => ⟨S_, .f32⟩
  | .hbm, ⟨66, _⟩ => ⟨S_, .f32⟩
  | .hbm, ⟨67, _⟩ => ⟨S192x6x96x1536, .i1⟩
  | .hbm, ⟨68, _⟩ => ⟨S192x6x96x1536, .f32⟩
  | .hbm, ⟨69, _⟩ => ⟨S192x6x96x1536, .f32⟩
  | .hbm, ⟨70, _⟩ => ⟨S1x1x96x12, .i1⟩
  | .hbm, ⟨71, _⟩ => ⟨S_, .f32⟩
  | .hbm, ⟨72, _⟩ => ⟨S_, .f32⟩
  | .hbm, ⟨73, _⟩ => ⟨S192x6x96x12, .i1⟩
  | .hbm, ⟨74, _⟩ => ⟨S192x6x96x12, .f32⟩
  | .hbm, ⟨75, _⟩ => ⟨S192x6x96x12, .f32⟩
  | .hbm, ⟨76, _⟩ => ⟨S_, .f32⟩
  | .hbm, ⟨77, _⟩ => ⟨S192x6x96, .f32⟩
  | .hbm, ⟨78, _⟩ => ⟨S192x6x96x1, .f32⟩
  | .hbm, ⟨79, _⟩ => ⟨S_, .f32⟩
  | .hbm, ⟨80, _⟩ => ⟨S192x6x96, .f32⟩
  | .hbm, ⟨81, _⟩ => ⟨S192x6x96x1, .f32⟩
  | .hbm, ⟨82, _⟩ => ⟨S192x6x96x1, .f32⟩
  | .hbm, ⟨83, _⟩ => ⟨S192x6x96x1536, .f32⟩
  | .hbm, ⟨84, _⟩ => ⟨S192x6x96x1536, .f32⟩
  | .hbm, ⟨85, _⟩ => ⟨S192x6x96x1536, .f32⟩
  | .hbm, ⟨86, _⟩ => ⟨S192x6x96x12, .f32⟩
  | .hbm, ⟨87, _⟩ => ⟨S192x6x96x12, .f32⟩
  | .hbm, ⟨88, _⟩ => ⟨S192x6x96x12, .f32⟩
  | .hbm, ⟨89, _⟩ => ⟨S_, .f32⟩
  | .hbm, ⟨90, _⟩ => ⟨S192x6x96, .f32⟩
  | .hbm, ⟨91, _⟩ => ⟨S192x6x96x1, .f32⟩
  | .hbm, ⟨92, _⟩ => ⟨S_, .f32⟩
  | .hbm, ⟨93, _⟩ => ⟨S192x6x96, .f32⟩
  | .hbm, ⟨94, _⟩ => ⟨S192x6x96x1, .f32⟩
  | .hbm, ⟨95, _⟩ => ⟨S192x6x96x1, .f32⟩
  | .hbm, ⟨96, _⟩ => ⟨S_, .f32⟩
  | .hbm, ⟨97, _⟩ => ⟨S192x6x96x1, .f32⟩
  | .hbm, ⟨98, _⟩ => ⟨S192x6x96x1, .i1⟩
  | .hbm, ⟨99, _⟩ => ⟨S_, .f32⟩
  | .hbm, ⟨100, _⟩ => ⟨S_, .f32⟩
  | .hbm, ⟨101, _⟩ => ⟨S192x6x96x1, .f32⟩
  | .hbm, ⟨102, _⟩ => ⟨S192x6x96x1, .f32⟩
  | .hbm, ⟨103, _⟩ => ⟨S192x6x96x1536, .f32⟩
  | .hbm, ⟨104, _⟩ => ⟨S192x6x96x1536, .f32⟩
  | .hbm, ⟨105, _⟩ => ⟨S192x6x96x1536, .f32⟩
  | .hbm, ⟨106, _⟩ => ⟨S192x6x96x1536, .f32⟩
  | .hbm, ⟨107, _⟩ => ⟨S192x6x96x1536, .bf16⟩
  | .hbm, ⟨108, _⟩ => ⟨S192x6x96x12, .f32⟩
  | .hbm, ⟨109, _⟩ => ⟨S192x6x96x12, .f32⟩
  | .hbm, ⟨110, _⟩ => ⟨S192x6x96x12, .f32⟩
  | .hbm, ⟨111, _⟩ => ⟨S192x6x96x12, .f32⟩
  | .hbm, ⟨112, _⟩ => ⟨S192x6x96x12, .bf16⟩
  | .hbm, ⟨113, _⟩ => ⟨S192x6x96x160, .f32⟩
  | .hbm, ⟨114, _⟩ => ⟨S192x6x96x160, .f32⟩
  | .hbm, ⟨115, _⟩ => ⟨S192x6x96x160, .f32⟩
  | .hbm, ⟨116, _⟩ => ⟨S192x6x12x8x160, .f32⟩
  | .hbm, ⟨117, _⟩ => ⟨S192x12x6x8x160, .f32⟩
  | .hbm, ⟨118, _⟩ => ⟨S192x12x7680, .f32⟩
  | .hbm, ⟨119, _⟩ => ⟨S192x12x7680, .bf16⟩
  | .local _ .vmem, ⟨0, _⟩ => ⟨S192x12x6x160, .bf16⟩
  | .local _ .vmem, ⟨1, _⟩ => ⟨S192x12x6x160, .bf16⟩
  | .local _ .vmem, ⟨2, _⟩ => ⟨S6x1, .f32⟩
  | .local _ .vmem, ⟨3, _⟩ => ⟨S6x1, .f32⟩
  | .local _ .vmem, ⟨4, _⟩ => ⟨S192x1536x6x160, .fp8e4m3⟩
  | .local _ .vmem, ⟨5, _⟩ => ⟨S192x1536x6x160, .fp8e4m3⟩
  | .local _ .vmem, ⟨6, _⟩ => ⟨S192x12x6x160, .fp8e4m3⟩
  | .local _ .vmem, ⟨7, _⟩ => ⟨S192x12x6x160, .fp8e4m3⟩
  | .local _ .vmem, ⟨8, _⟩ => ⟨S192x12x6x160, .bf16⟩
  | .local _ .vmem, ⟨9, _⟩ => ⟨S192x12x6x160, .bf16⟩
  | .local _ .vmem, ⟨10, _⟩ => ⟨S192x1536x6x160, .bf16⟩
  | .local _ .vmem, ⟨11, _⟩ => ⟨S192x1536x6x160, .bf16⟩
  | _, _ => ⟨S192x12x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_c : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_0 : Ref sig .tc := ⟨.hbm, 56, rfl⟩
abbrev main_call0_v12 : Ref sig .tc := ⟨.hbm, 57, rfl⟩
abbrev main_call0_v13 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_1 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v33 : Ref sig .tc := ⟨.hbm, 69, rfl⟩
abbrev main_v34 : Ref sig .tc := ⟨.hbm, 70, rfl⟩
abbrev main_cst_2 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v35 : Ref sig .tc := ⟨.hbm, 75, rfl⟩
abbrev main_cst_3 : Ref sig .tc := ⟨.hbm, 76, rfl⟩
abbrev main_v36 : Ref sig .tc := ⟨.hbm, 77, rfl⟩
abbrev main_v37 : Ref sig .tc := ⟨.hbm, 78, rfl⟩
abbrev main_cst_4 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_5 : Ref sig .tc := ⟨.hbm, 89, rfl⟩
abbrev main_v47 : Ref sig .tc := ⟨.hbm, 90, rfl⟩
abbrev main_v48 : Ref sig .tc := ⟨.hbm, 91, rfl⟩
abbrev main_cst_6 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_7 : Ref sig .tc := ⟨.hbm, 96, rfl⟩
abbrev main_v52 : Ref sig .tc := ⟨.hbm, 97, rfl⟩
abbrev main_v53 : Ref sig .tc := ⟨.hbm, 98, rfl⟩
abbrev main_cst_8 : Ref sig .tc := ⟨.hbm, 99, rfl⟩
abbrev main_call3_v0 : Ref sig .tc := ⟨.hbm, 100, rfl⟩
abbrev main_call3_v1 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S192x12x6x160 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x12x6x160 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x1536x6x160 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192x1536x6x160 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S192x12x6x160 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S192x12x6x160 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S192x12x6x160 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S192x12x6x160 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S192x1536x6x160 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S192x1536x6x160 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KernelRun.lean ====
/- The kernel's run: from any launch memory, every result buffer ends at the contents the fold of the generated frame
   certificate names (`Gen.W5`, the buffers after the last host stretch), and every argument buffer is unchanged. -/
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the kernel program: it terminates, each result buffer holds what the last segment boundary says, and the
    argument buffers are as launched. The proof is the generated frame's, with the results read beside the arguments. -/
theorem run : θ_run defs (onTc (τ := τ) (main (F := F))) ⟨m, fun _ => 0, ρ⟩ (fun r => ∀ c : Dev nD,
      r.2.mem ((c.tc : Thread nD τ).loc main_v16) = W5 m ρ c (Proc.devRef .tc main_v16)
      ∧ r.2.mem ((c.tc : Thread nD τ).loc main_v17) = W5 m ρ c (Proc.devRef .tc main_v17)
      ∧ r.2.mem ((c.tc : Thread nD τ).loc main_v18) = W5 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v16 (by decide))),
       (h c _ (mem_uc main_v17 (by decide))),
       (h c _ (mem_uc main_v18 (by decide))),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Value

end
-- ==== Proof.Math.lean ====
/-
  The mathematics of one row of the attention, over the extended reals: the two forms of the row's output (the reference's
  weights divided one by one, and the kernel's sums divided once) and the proof that they agree when the value scale is
  nonnegative and finite.
-/
module

public import Idealize.ShloMosaic.Lib.Pointwise

@[expose] public section

noncomputable section

namespace Cert.Attend

open Idealize.ShloMosaic

/-- The constant 160^(-1/2) the scores are multiplied by. -/
def scale : EReal := Ideal.ofBits .f32 0x3DA1E89B#32

/-- The value of a masked score: minus infinity. -/
def ninf : EReal := Ideal.ofBits .f32 0xFF800000#32

/-- Is cache position `t` before the sequence's length? -/
def maskC (len : BitVec 32) (t : Fin 1536) : BitVec 1 := IntOp.cmpi .slt (BitVec.ofNat 32 t) len

/-- May query row `n`, which belongs to new token `n / 8`, see new token `t`? -/
def maskN (n : Fin 96) (t : Fin 12) : BitVec 1 := IntOp.cmpi .sle (BitVec.ofNat 32 t) (BitVec.ofNat 32 (n.val / 8))

/-- The scores of one query row against the cache. -/
def scoreC (len : BitVec 32) (ks : EReal) (q : Fin 160 → EReal) (k : Fin 1536 → Fin 160 → EReal) (t : Fin 1536) : EReal :=
  Scalar.select (maskC len t) ((∑ d, q d * k t d) * (ks * scale)) ninf

/-- The scores of query row `n` against the new tokens. -/
def scoreN (n : Fin 96) (ks : EReal) (q : Fin 160 → EReal) (k : Fin 12 → Fin 160 → EReal) (t : Fin 12) : EReal :=
  Scalar.select (maskN n t) ((∑ d, q d * k t d) * (ks * scale)) ninf

section Row

variable (a : Fin 1536 → EReal) (b : Fin 12 → EReal)

/-- The largest score of the row. -/
def top : EReal := max (Finset.univ.fold max ninf a) (Finset.univ.fold max ninf b)

/-- The weight of a cache position, before division. -/
def wC (t : Fin 1536) : EReal := Ideal.exp (a t - top a b)

/-- The weight of a new token, before division. -/
def wN (t : Fin 12) : EReal := Ideal.exp (b t - top a b)

/-- The sum of the weights. -/
def den : EReal := ∑ t, wC a b t + ∑ t, wN a b t

/-- One output entry as the reference computes it: every weight divided by the sum, then scaled. -/
def outR (vs : EReal) (v : Fin 1536 → EReal) (u : Fin 12 → EReal) : EReal :=
  ∑ t, Ideal.div (wC a b t) (if den a b = 0 then 1 else den a b) * vs * v t +
    ∑ t, Ideal.div (wN a b t) (if den a b = 0 then 1 else den a b) * vs * u t

/-- One output entry as the kernel computes it: the weighted sums, scaled by the quotient once. -/
def outK (vs : EReal) (v : Fin 1536 → EReal) (u : Fin 12 → EReal) : EReal :=
  (∑ t, wC a b t * v t + ∑ t, wN a b t * u t) * Ideal.div vs (den a b)

/-- The extended exponential is nonnegative. -/
theorem exp_nonneg (x : EReal) : 0 ≤ Ideal.exp x := by
  induction x with
  | bot => exact le_refl (0 : EReal)
  | top => exact (le_top : (0 : EReal) ≤ ⊤)
  | coe r => exact EReal.coe_nonneg.mpr (Real.exp_pos r).le

/-- A finite sum times a nonnegative finite factor is the sum of the products. -/
theorem sum_mul_of_nonneg {ι : Type} [DecidableEq ι] (s : Finset ι) (f : ι → EReal) {c : EReal} (h0 : 0 ≤ c) (hT : c ≠ ⊤) :
    (∑ i ∈ s, f i) * c = ∑ i ∈ s, f i * c := by
  induction s using Finset.induction_on with
  | empty => simp
  | insert i s hi ih =>
    rw [Finset.sum_insert hi, Finset.sum_insert hi, EReal.right_distrib_of_nonneg_of_ne_top h0 hT, ih]

/-- The two forms of the output agree. -/
theorem outK_eq_outR {vs : EReal} (h0 : 0 ≤ vs) (hT : vs < ⊤) (v : Fin 1536 → EReal) (u : Fin 12 → EReal) :
    outK a b vs v u = outR a b vs v u := by
  have hC : ∀ t, 0 ≤ wC a b t := fun t => exp_nonneg _
  have hN : ∀ t, 0 ≤ wN a b t := fun t => exp_nonneg _
  have hsC : 0 ≤ ∑ t, wC a b t := Finset.sum_nonneg fun t _ => hC t
  have hsN : 0 ≤ ∑ t, wN a b t := Finset.sum_nonneg fun t _ => hN t
  have hd : 0 ≤ den a b := add_nonneg hsC hsN
  unfold outK outR
  by_cases hz : den a b = 0
  · have zC : ∑ t, wC a b t = 0 := le_antisymm (by rw [← hz]; exact le_add_of_nonneg_right hsN) hsC
    have zN : ∑ t, wN a b t = 0 := le_antisymm (by rw [← hz]; exact le_add_of_nonneg_left hsC) hsN
    have eC : ∀ t, wC a b t = 0 := fun t => (Finset.sum_eq_zero_iff_of_nonneg fun t _ => hC t).mp zC t (Finset.mem_univ t)
    have eN : ∀ t, wN a b t = 0 := fun t => (Finset.sum_eq_zero_iff_of_nonneg fun t _ => hN t).mp zN t (Finset.mem_univ t)
    simp [eC, eN, hz, Ideal.div]
  · have hi0 : 0 ≤ (den a b)⁻¹ := EReal.inv_nonneg_of_nonneg hd
    have hiT : (den a b)⁻¹ ≠ ⊤ := by
      generalize den a b = x at hz hd
      induction x with
      | bot => simp
      | top => simp
      | coe r => rw [← EReal.coe_inv]; exact EReal.coe_ne_top _
    have hc0 : 0 ≤ vs * (den a b)⁻¹ := mul_nonneg h0 hi0
    have hcT : vs * (den a b)⁻¹ ≠ ⊤ := by
      generalize (den a b)⁻¹ = y at hi0 hiT
      induction vs with
      | bot => simp at h0
      | top => simp at hT
      | coe r =>
        induction y with
        | bot => simp at hi0
        | top => simp at hiT
        | coe s => rw [← EReal.coe_mul]; exact EReal.coe_ne_top _
    simp only [Ideal.div, if_neg hz]
    rw [EReal.right_distrib_of_nonneg_of_ne_top hc0 hcT, sum_mul_of_nonneg _ _ hc0 hcT, sum_mul_of_nonneg _ _ hc0 hcT]
    congr 1
    all_goals refine Finset.sum_congr rfl fun t _ => ?_
    all_goals rw [mul_assoc _ (den a b)⁻¹ vs, mul_comm (den a b)⁻¹ vs, mul_right_comm]

end Row

/-- One quantised entry: the value times the reciprocal of its scale, clamped between -448 and 448. -/
def code (s x : EReal) : EReal :=
  min (Ideal.ofBits .f32 0x43E00000#32) (max (Ideal.ofBits .f32 0xC3E00000#32) (x * Ideal.div (Ideal.ofBits .f32 0x3F800000#32) s))

end Cert.Attend

end
-- ==== Proof.Head.lean ====
/-
  What the attention kernel stores for one head of one sequence, read down to scalars: one row of the output is the kernel
  form of the attention row (`Attend.outK`) of that head's scores.
-/
module

public import proofs.«01_k».proof.Proof.Gen.KernelIdeal.Frame
public import proofs.«01_k».proof.Proof.Math
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Value

open Cert.KernelIdeal Cert.KernelIdeal.Gen
open Idealize.ShloMosaic Idealize.ShloMosaic.TcCoe Idealize.SL.Sem

/-- The largest entry of a row of cache scores. -/
theorem rowMaxC (A : FVec Ideal S96x1536 .f32) (n : Fin 96) :
    multiReduction .maximumf [1] S96 A 0xFF800000#32 reduces_S96x1536_S96 (.inl rfl) rfl (ix1 n) =
      Finset.univ.fold max Attend.ninf fun x => A (ix2 n x) := by
  unfold Attend.ninf
  pointwise

/-- The largest entry of a row of new-token scores. -/
theorem rowMaxN (A : FVec Ideal S96x12 .f32) (n : Fin 96) :
    multiReduction .maximumf [1] S96 A 0xFF800000#32 reduces_S96x12_S96 (.inl rfl) rfl (ix1 n) =
      Finset.univ.fold max Attend.ninf fun x => A (ix2 n x) := by
  unfold Attend.ninf
  pointwise

/-- The larger of two columns of row maxima. -/
theorem colMax (A B : FVec Ideal S96 .f32) (n : Fin 96) :
    maximumf (shapeCast S96x1 A shapeCasts_S96_S96x1) (shapeCast S96x1 B shapeCasts_S96_S96x1) (ix2 n 0) =
      max (A (ix1 n)) (B (ix1 n)) := by
  pointwise

/-- Shifting a row number right by three is division by eight. -/
theorem row_shift : ∀ n : Fin 96,
    IntOp.shrsi ArithUnit.vector (BitVec.ofNat 32 n.val) 3#32 = BitVec.ofNat 32 (n.val / 8) := by decide +kernel

variable (len : BitVec 32) (q : FVec Ideal S1x1x96x160 .bf16) (ks vs : Ideal .f32)
  (ck cv : FVec Ideal S1x1x160x1536 .fp8e4m3) (kn vn : FVec Ideal S1x1x160x12 .fp8e4m3)

/-- The scores of a head's query rows against the cache. -/
theorem scoresC_apply (n : Fin 96) (t : Fin 1536) :
    k1_pay4 (F := Ideal) len q ks ck (ix2 n t) =
      Attend.scoreC len ks (fun d => q (ix4 0 0 n d)) (fun t d => ck (ix4 0 0 d t)) t := by
  pointwise [k1_pay4, k1_pay2, k1_pay3]
  rfl

/-- The scores of a head's query rows against the new tokens. -/
theorem scoresN_apply (n : Fin 96) (t : Fin 12) :
    k1_pay5 (F := Ideal) q ks kn (ix2 n t) =
      Attend.scoreN n ks (fun d => q (ix4 0 0 n d)) (fun t d => kn (ix4 0 0 d t)) t := by
  pointwise [k1_pay5, k1_pay2, k1_pay3]
  rw [row_shift]
  rfl

/-- The largest score of a row. -/
theorem top_apply (n : Fin 96) :
    k1_pay6 (F := Ideal) len q ks ck kn (ix2 n 0) =
      Attend.top (Attend.scoreC len ks (fun d => q (ix4 0 0 n d)) fun t d => ck (ix4 0 0 d t))
        (Attend.scoreN n ks (fun d => q (ix4 0 0 n d)) fun t d => kn (ix4 0 0 d t)) := by
  refine (colMax _ _ n).trans ?_
  rw [rowMaxC, rowMaxN]
  simp only [scoresC_apply, scoresN_apply]
  rfl

/-- The rest of a head's computation, from its scores and their largest: exponentials, their sums, the weighted sums of the
    values and the scaled quotient. -/
theorem weighted_apply (A : FVec Ideal S96x1536 .f32) (B : FVec Ideal S96x12 .f32) (M : FVec Ideal S96x1 .f32) (n : Fin 96)
    (d : Fin 160) :
    k1_pay8 (F := Ideal) vs A B M (broadcastTo S96x1536 M broadcasts_S96x1_S96x1536) cv vn (ix4 0 0 n d) =
      (∑ x, Ideal.exp (A (ix2 n x) - M (ix2 n 0)) * cv (ix4 0 0 d x) +
          ∑ x, Ideal.exp (B (ix2 n x) - M (ix2 n 0)) * vn (ix4 0 0 d x)) *
        Ideal.div vs (∑ x, Ideal.exp (A (ix2 n x) - M (ix2 n 0)) + ∑ x, Ideal.exp (B (ix2 n x) - M (ix2 n 0))) := by
  pointwise [k1_pay8]

/-- What the kernel stores for one head: the composition of the first head's payloads. -/
def headOut : FVec Ideal S1x1x96x160 .bf16 :=
  k1_pay8 vs (k1_pay4 len q ks ck) (k1_pay5 q ks kn) (k1_pay6 len q ks ck kn) (k1_pay7 len q ks ck kn) cv vn

/-- One entry of a head's output is the kernel form of the attention row. -/
theorem headOut_apply (n : Fin 96) (d : Fin 160) :
    headOut len q ks vs ck cv kn vn (ix4 0 0 n d) =
      Attend.outK (Attend.scoreC len ks (fun d => q (ix4 0 0 n d)) fun t d => ck (ix4 0 0 d t))
        (Attend.scoreN n ks (fun d => q (ix4 0 0 n d)) fun t d => kn (ix4 0 0 d t)) vs (fun t => cv (ix4 0 0 d t))
        fun t => vn (ix4 0 0 d t) := by
  refine (weighted_apply vs cv vn _ _ (k1_pay6 len q ks ck kn) n d).trans ?_
  simp only [scoresC_apply, scoresN_apply, top_apply]
  rfl

end Cert.KernelIdeal.Value

end
-- ==== Proof.Attend.lean ====
/-
  The attention region of the kernel: the array it leaves is, entry by entry, the kernel form of the attention row of that
  sequence and head.
-/
module

public import proofs.«01_k».proof.Proof.Gen.KernelIdeal.Frame
public import proofs.«01_k».proof.Proof.Head
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Value

open Cert.KernelIdeal Cert.KernelIdeal.Gen
open Idealize.ShloMosaic Idealize.ShloMosaic.TcCoe Idealize.SL.Sem

section Heads

variable (len : BitVec 32) (q : FVec Ideal S1x1x96x160 .bf16) (ks vs : Ideal .f32)
  (ck cv : FVec Ideal S1x1x160x1536 .fp8e4m3) (kn vn : FVec Ideal S1x1x160x12 .fp8e4m3)

/-- The first head's stored value. -/
theorem head0 : k1_pay8 vs (k1_pay4 len q ks ck) (k1_pay5 q ks kn) (k1_pay6 len q ks ck kn) (k1_pay7 len q ks ck kn) cv vn =
    headOut len q ks vs ck cv kn vn := rfl

/-- The second head's stored value is the same computation. -/
theorem head1 : k1_pay19 vs (k1_pay15 len (k1_pay9 q) (k1_pay10 ks) ck kn) (k1_pay16 len (k1_pay9 q) (k1_pay10 ks) ck kn)
    (k1_pay17 len (k1_pay9 q) (k1_pay10 ks) ck kn) (k1_pay18 cv) vn = headOut len q ks vs ck cv kn vn := rfl

/-- The third head's stored value is the same computation. -/
theorem head2 : k1_pay25 (k1_pay24 len vs (k1_pay22 q ks ck) (k1_pay23 q ks kn)
    (iota Kind.tc S96x1536 32 [1] iota_S96x1536_d1_w32) cv vn) = headOut len q ks vs ck cv kn vn := rfl

/-- The fourth head's stored value is the same computation. -/
theorem head3 : k1_pay32 vs (k1_pay28 len q ks ck) (k1_pay29 q ks kn) (k1_pay30 len q ks ck) (k1_pay31 q ks kn) cv vn =
    headOut len q ks vs ck cv kn vn := rfl

/-- The fifth head's stored value is the same computation. -/
theorem head4 : k1_pay42 vs (k1_pay39 len (k1_pay33 q) (k1_pay34 ks) ck kn) (k1_pay40 len (k1_pay33 q) (k1_pay34 ks) ck kn)
    (k1_pay41 len (k1_pay33 q) (k1_pay34 ks) ck kn) cv vn = headOut len q ks vs ck cv kn vn := rfl

/-- The sixth head's stored value is the same computation. -/
theorem head5 : k1_pay1 (k1_pay47 len (k1_pay44 ks) vs (k1_pay45 q ks ck) (k1_pay46 q kn) cv vn) =
    headOut len q ks vs ck cv kn vn := rfl

end Heads

/-- The array of attention outputs: entry `(b, g, n, d)` is the kernel form of the row of sequence `b`, head `g`, query row
    `n` at dimension `d`, over the arrays the region reads. -/
def attendArr (len : IVec S192 32) (sc : FVec Ideal S2x6 .f32) (q : FVec Ideal S192x6x96x160 .bf16)
    (ck cv : FVec Ideal S192x6x160x1536 .fp8e4m3) (kn vn : FVec Ideal S192x6x160x12 .fp8e4m3) :
    FVec Ideal S192x6x96x160 .bf16 := fun i =>
  Attend.outK
    (Attend.scoreC (len (ix1 (i 0))) (sc (ix2 0 (i 1))) (fun d => q (ix4 (i 0) (i 1) (i 2) d)) fun t d => ck (ix4 (i 0) (i 1) d t))
    (Attend.scoreN (i 2) (sc (ix2 0 (i 1))) (fun d => q (ix4 (i 0) (i 1) (i 2) d)) fun t d => kn (ix4 (i 0) (i 1) d t))
    (sc (ix2 1 (i 1))) (fun t => cv (ix4 (i 0) (i 1) (i 3) t)) fun t => vn (ix4 (i 0) (i 1) (i 3) t)

/-- A head's output at a local index is the array's entry at `i` when the head's operands are the array's blocks there. -/
theorem headOut_eq_attendArr {len : IVec S192 32} {sc : FVec Ideal S2x6 .f32} {q : FVec Ideal S192x6x96x160 .bf16}
    {ck cv : FVec Ideal S192x6x160x1536 .fp8e4m3} {kn vn : FVec Ideal S192x6x160x12 .fp8e4m3}
    {len' : BitVec 32} {q' : FVec Ideal S1x1x96x160 .bf16} {ks' vs' : Ideal .f32}
    {ck' cv' : FVec Ideal S1x1x160x1536 .fp8e4m3} {kn' vn' : FVec Ideal S1x1x160x12 .fp8e4m3}
    (i : S192x6x96x160.Idx) (x : S1x1x96x160.Idx) (h2 : (i 2 : ℕ) = (x 2 : ℕ)) (h3 : (i 3 : ℕ) = (x 3 : ℕ))
    (hlen : len' = len (ix1 (i 0))) (hks : ks' = sc (ix2 0 (i 1))) (hvs : vs' = sc (ix2 1 (i 1)))
    (hq : ∀ n d, q' (ix4 0 0 n d) = q (ix4 (i 0) (i 1) n d)) (hck : ∀ d t, ck' (ix4 0 0 d t) = ck (ix4 (i 0) (i 1) d t))
    (hcv : ∀ d t, cv' (ix4 0 0 d t) = cv (ix4 (i 0) (i 1) d t)) (hkn : ∀ d t, kn' (ix4 0 0 d t) = kn (ix4 (i 0) (i 1) d t))
    (hvn : ∀ d t, vn' (ix4 0 0 d t) = vn (ix4 (i 0) (i 1) d t)) :
    headOut len' q' ks' vs' ck' cv' kn' vn' x = attendArr len sc q ck cv kn vn i := by
  idx_vars i
  idx_vars x
  obtain rfl := Fin.ext h2
  obtain rfl := Fin.ext h3
  obtain rfl := Subsingleton.elim x0 0
  obtain rfl := Subsingleton.elim x1 0
  rw [headOut_apply]
  subst hlen hks hvs
  simp only [hq, hck, hcv, hkn, hvn]
  rfl

/-- The index maps of the attention region: point `t` handles sequence `t`. -/
theorem idx1 : ∀ t : Fin cfg1.N, win1_0.index t = ![0] ∧ win1_1.index t = ![0, 0] ∧ win1_2.index t = ![t.val, 0, 0, 0] ∧
    win1_3.index t = ![t.val, 0, 0, 0] ∧ win1_4.index t = ![t.val, 0, 0, 0] ∧ win1_5.index t = ![t.val, 0, 0, 0] ∧
    win1_6.index t = ![t.val, 0, 0, 0] ∧ win1_7.index t = ![t.val, 0, 0, 0] ∧ k1_off1 (grid1.coords t) = ![t.val] :=
  (by decide +kernel : ∀ t : Fin grid1.N, _)

variable (V : (c : Dev nD) → (b : Ref sig .tc) → Buf (Elt Ideal) (c.tc.loc b))

/-- The length block is the whole array of lengths. -/
theorem block0 (c : Dev nD) (t : Fin cfg1.N) (b : Fin 192) : iblk1 V c 0 t (ix1 b) = V c (Pipeline.arrRef spec1 0) (ix1 b) := by
  blk_ext [iblk1, idx1 t]

/-- The scale block is the whole array of scales. -/
theorem block1 (c : Dev nD) (t : Fin cfg1.N) (r : Fin 2) (g : Fin 6) :
    iblk1 V c 1 t (ix2 r g) = V c (Pipeline.arrRef spec1 1) (ix2 r g) := by
  blk_ext [iblk1, idx1 t]

/-- Window 2's block at point `t` is its array's slice at sequence `t`. -/
theorem block2 (c : Dev nD) (t : Fin cfg1.N) (b : Fin 192) (hb : (b : ℕ) = t) (g : Fin 6) (n : Fin 96) (d : Fin 160) :
    iblk1 V c 2 t (ix4 0 g n d) = V c (Pipeline.arrRef spec1 2) (ix4 b g n d) := by
  blk_ext [iblk1, idx1 t]

/-- Window 3's block at point `t` is its array's slice at sequence `t`. -/
theorem block3 (c : Dev nD) (t : Fin cfg1.N) (b : Fin 192) (hb : (b : ℕ) = t) (g : Fin 6) (n : Fin 160) (d : Fin 1536) :
    iblk1 V c 3 t (ix4 0 g n d) = V c (Pipeline.arrRef spec1 3) (ix4 b g n d) := by
  blk_ext [iblk1, idx1 t]

/-- Window 4's block at point `t` is its array's slice at sequence `t`. -/
theorem block4 (c : Dev nD) (t : Fin cfg1.N) (b : Fin 192) (hb : (b : ℕ) = t) (g : Fin 6) (n : Fin 160) (d : Fin 1536) :
    iblk1 V c 4 t (ix4 0 g n d) = V c (Pipeline.arrRef spec1 4) (ix4 b g n d) := by
  blk_ext [iblk1, idx1 t]

/-- Window 5's block at point `t` is its array's slice at sequence `t`. -/
theorem block5 (c : Dev nD) (t : Fin cfg1.N) (b : Fin 192) (hb : (b : ℕ) = t) (g : Fin 6) (n : Fin 160) (d : Fin 12) :
    iblk1 V c 5 t (ix4 0 g n d) = V c (Pipeline.arrRef spec1 5) (ix4 b g n d) := by
  blk_ext [iblk1, idx1 t]

/-- Window 6's block at point `t` is its array's slice at sequence `t`. -/
theorem block6 (c : Dev nD) (t : Fin cfg1.N) (b : Fin 192) (hb : (b : ℕ) = t) (g : Fin 6) (n : Fin 160) (d : Fin 12) :
    iblk1 V c 6 t (ix4 0 g n d) = V c (Pipeline.arrRef spec1 6) (ix4 b g n d) := by
  blk_ext [iblk1, idx1 t]

/-- A head's output at a point is the array's entry, when its operands are head `g` of the point's blocks. -/
theorem head_entry (c : Dev nD) (t : Fin cfg1.N) (g : Fin 6) (i : S192x6x96x160.Idx) (x : S1x1x96x160.Idx)
    (h0 : (i 0 : ℕ) = t) (h1 : (i 1 : ℕ) = g) (h2 : (i 2 : ℕ) = (x 2 : ℕ)) (h3 : (i 3 : ℕ) = (x 3 : ℕ))
    {len' : BitVec 32} {q' : FVec Ideal S1x1x96x160 .bf16} {ks' vs' : Ideal .f32}
    {ck' cv' : FVec Ideal S1x1x160x1536 .fp8e4m3} {kn' vn' : FVec Ideal S1x1x160x12 .fp8e4m3}
    (hlen : len' = iblk1 V c 0 t (ix1 (i 0))) (hks : ks' = iblk1 V c 1 t (ix2 0 g)) (hvs : vs' = iblk1 V c 1 t (ix2 1 g))
    (hq : ∀ (n : Fin 96) (d : Fin 160), q' (ix4 0 0 n d) = iblk1 V c 2 t (ix4 0 g n d))
    (hck : ∀ (n : Fin 160) (d : Fin 1536), ck' (ix4 0 0 n d) = iblk1 V c 3 t (ix4 0 g n d))
    (hcv : ∀ (n : Fin 160) (d : Fin 1536), cv' (ix4 0 0 n d) = iblk1 V c 4 t (ix4 0 g n d))
    (hkn : ∀ (n : Fin 160) (d : Fin 12), kn' (ix4 0 0 n d) = iblk1 V c 5 t (ix4 0 g n d))
    (hvn : ∀ (n : Fin 160) (d : Fin 12), vn' (ix4 0 0 n d) = iblk1 V c 6 t (ix4 0 g n d)) :
    headOut len' q' ks' vs' ck' cv' kn' vn' x =
      attendArr (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) i := by
  obtain rfl : i 1 = g := Fin.ext h1
  exact headOut_eq_attendArr i x h2 h3 (hlen.trans (block0 V c t _)) (hks.trans (block1 V c t _ _)) (hvs.trans (block1 V c t _ _))
    (fun n d => (hq n d).trans (block2 V c t _ h0 _ n d)) (fun n d => (hck n d).trans (block3 V c t _ h0 _ n d))
    (fun n d => (hcv n d).trans (block4 V c t _ h0 _ n d)) (fun n d => (hkn n d).trans (block5 V c t _ h0 _ n d))
    (fun n d => (hvn n d).trans (block6 V c t _ h0 _ n d))

/-- A head's output at a point is the array's entry, when its operands are loaded at head `g` of the point's blocks. -/
theorem head_of_loads (c : Dev nD) (t : Fin cfg1.N) (g : ℕ) (hg : g < 6) (i : S192x6x96x160.Idx) (x : S1x1x96x160.Idx)
    (h0 : (i 0 : ℕ) = t) (h1 : (i 1 : ℕ) = g) (h2 : (i 2 : ℕ) = (x 2 : ℕ)) (h3 : (i 3 : ℕ) = (x 3 : ℕ))
    {b0 b1 b2 b3 b4 b5 b6 b7 p0 p1 p2} :
    headOut (View.ld (S := S192) (iblk1 V c 0 t) (Rect.unit (k1_off1 (grid1.coords t)) ![1] b0) (Shape.Idx.first p0))
        (View.ld (S := S1x6x96x160) (iblk1 V c 2 t) (Rect.unit ![0, g, 0, 0] ![1, 1, 96, 160] b1))
        (View.ld (S := S2x6) (iblk1 V c 1 t) (Rect.unit ![0, g] ![1, 1] b2) (Shape.Idx.first p1))
        (View.ld (S := S2x6) (iblk1 V c 1 t) (Rect.unit ![1, g] ![1, 1] b3) (Shape.Idx.first p2))
        (View.ld (S := S1x6x160x1536) (iblk1 V c 3 t) (Rect.unit ![0, g, 0, 0] ![1, 1, 160, 1536] b4))
        (View.ld (S := S1x6x160x1536) (iblk1 V c 4 t) (Rect.unit ![0, g, 0, 0] ![1, 1, 160, 1536] b5))
        (View.ld (S := S1x6x160x12) (iblk1 V c 5 t) (Rect.unit ![0, g, 0, 0] ![1, 1, 160, 12] b6))
        (View.ld (S := S1x6x160x12) (iblk1 V c 6 t) (Rect.unit ![0, g, 0, 0] ![1, 1, 160, 12] b7)) x =
      attendArr (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) i := by
  have ht : k1_off1 (grid1.coords t) = ![t.val] := (idx1 t).2.2.2.2.2.2.2.2
  refine head_entry V c t ⟨g, hg⟩ i x h0 h1 h2 h3 ?_ ?_ ?_ (fun n d => ?_) (fun n d => ?_) (fun n d => ?_) (fun n d => ?_)
    fun n d => ?_
  · exact View.ld_unit_apply_of _ _ _ _ _ _ fun a => match a with | 0 => h0.trans (congrFun ht 0).symm
  · exact View.ld_unit_apply_of _ _ _ _ _ _ fun a => match a with | 0 => rfl | 1 => rfl
  · exact View.ld_unit_apply_of _ _ _ _ _ _ fun a => match a with | 0 => rfl | 1 => rfl
  all_goals
    exact View.ld_unit_apply_of _ _ _ _ _ _ fun a => match a with
      | 0 => rfl | 1 => rfl | 2 => (Nat.zero_add _).symm | 3 => (Nat.zero_add _).symm

set_option maxHeartbeats 1600000 in
/-- The attention region leaves `attendArr` of the arrays it reads. -/
theorem attend_arr (c : Dev nD) : (dat1 V c).arrAt 7 cfg1.N = (attendArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) : FVec Ideal S192x6x96x160 .bf16) := by
  refine (dat1 V c).arrAt_eq_of_covers 7 _ (by decide +kernel) fun t _ y => ?_
  rw [after1_7]
  unfold outsAt1
  frame_out
  canon_tiles x h
  case piece0 =>
    rw [head5]
    exact head_of_loads V c t 5 (by decide) _ x (by blk_simp [idx1 t]) (by blk_simp [idx1 t]; exact h1.trans (by omega))
      (by blk_simp [idx1 t]; exact h2) (by blk_simp [idx1 t]; exact h3)
  case piece1 =>
    rw [head4]
    exact head_of_loads V c t 4 (by decide) _ x (by blk_simp [idx1 t]) (by blk_simp [idx1 t]; exact h1.trans (by omega))
      (by blk_simp [idx1 t]; exact h2) (by blk_simp [idx1 t]; exact h3)
  case piece2 =>
    rw [head3]
    exact head_of_loads V c t 3 (by decide) _ x (by blk_simp [idx1 t]) (by blk_simp [idx1 t]; exact h1.trans (by omega))
      (by blk_simp [idx1 t]; exact h2) (by blk_simp [idx1 t]; exact h3)
  case piece3 =>
    rw [head2]
    exact head_of_loads V c t 2 (by decide) _ x (by blk_simp [idx1 t]) (by blk_simp [idx1 t]; exact h1.trans (by omega))
      (by blk_simp [idx1 t]; exact h2) (by blk_simp [idx1 t]; exact h3)
  case piece4 =>
    rw [head1]
    exact head_of_loads V c t 1 (by decide) _ x (by blk_simp [idx1 t]) (by blk_simp [idx1 t]; exact h1.trans (by omega))
      (by blk_simp [idx1 t]; exact h2) (by blk_simp [idx1 t]; exact h3)
  case piece5 =>
    rw [head0]
    exact head_of_loads V c t 0 (by decide) _ x (by blk_simp [idx1 t]) (by blk_simp [idx1 t]; exact h1.trans (by omega))
      (by blk_simp [idx1 t]; exact h2) (by blk_simp [idx1 t]; exact h3)

end Cert.KernelIdeal.Value

end
-- ==== Proof.Quant.lean ====
/-
  The quantisation region of the kernel: each of the two arrays it leaves is, entry by entry, the incoming array times the
  reciprocal of that head's scale, clamped to the finite range of fp8.
-/
module

public import proofs.«01_k».proof.Proof.Gen.KernelIdeal.Frame
public import proofs.«01_k».proof.Proof.Math
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Value

open Cert.KernelIdeal Cert.KernelIdeal.Gen
open Idealize.ShloMosaic Idealize.ShloMosaic.TcCoe Idealize.SL.Sem

/-- One head's stored block: `code` of each entry. -/
def quantOut (s : Ideal .f32) (x : FVec Ideal S1x1x160x192 .bf16) : FVec Ideal S1x1x160x192 .fp8e4m3 := k0_pay3 s x

/-- A head's stored block, entry by entry. -/
theorem quantOut_apply (s : Ideal .f32) (x : FVec Ideal S1x1x160x192 .bf16) (d : Fin 160) (b : Fin 192) :
    quantOut s x (ix4 0 0 d b) = Attend.code s (x (ix4 0 0 d b)) := by
  unfold quantOut Attend.code
  pointwise [k0_pay3]

/-- The array of codes: entry `(t, g, d, b)` is the code of that entry under the scale of head `g` in row `r` of the scales. -/
def quantArr (r : Fin 2) (sc : FVec Ideal S2x6 .f32) (x : FVec Ideal S12x6x160x192 .bf16) : FVec Ideal S12x6x160x192 .fp8e4m3 :=
  fun i => Attend.code (sc (ix2 r (i 1))) (x i)

/-- The index maps of the quantisation region: point `t` handles time step `t`. -/
theorem idx0 : ∀ t : Fin cfg0.N, win0_0.index t = ![0, 0] ∧ win0_1.index t = ![t.val, 0, 0, 0] ∧
    win0_2.index t = ![t.val, 0, 0, 0] ∧ win0_3.index t = ![t.val, 0, 0, 0] ∧ win0_4.index t = ![t.val, 0, 0, 0] :=
  (by decide +kernel : ∀ t : Fin grid0.N, _)

/-- A stored block's entry is the array's entry at `i`, when the block's operands are the array's there. -/
theorem quantOut_eq_quantArr {r : Fin 2} {sc : FVec Ideal S2x6 .f32} {x : FVec Ideal S12x6x160x192 .bf16}
    {s' : Ideal .f32} {x' : FVec Ideal S1x1x160x192 .bf16} (i : S12x6x160x192.Idx) (y : S1x1x160x192.Idx)
    (h2 : (i 2 : ℕ) = (y 2 : ℕ)) (h3 : (i 3 : ℕ) = (y 3 : ℕ)) (hs : s' = sc (ix2 r (i 1)))
    (hx : ∀ d b, x' (ix4 0 0 d b) = x (ix4 (i 0) (i 1) d b)) : quantOut s' x' y = quantArr r sc x i := by
  idx_vars i
  idx_vars y
  obtain rfl := Fin.ext h2
  obtain rfl := Fin.ext h3
  obtain rfl := Subsingleton.elim y0 0
  obtain rfl := Subsingleton.elim y1 0
  rw [quantOut_apply, hs, hx]
  rfl

variable (V : (c : Dev nD) → (b : Ref sig .tc) → Buf (Elt Ideal) (c.tc.loc b))

/-- The key block of a point is its time step of the key array. -/
theorem qblock1 (c : Dev nD) (t : Fin cfg0.N) (u : Fin 12) (hu : (u : ℕ) = t) (g : Fin 6) (d : Fin 160) (b : Fin 192) :
    iblk0 V c 1 t (ix4 0 g d b) = V c (Pipeline.arrRef spec0 1) (ix4 u g d b) := by
  blk_ext [iblk0, idx0 t]

/-- The value block of a point is its time step of the value array. -/
theorem qblock2 (c : Dev nD) (t : Fin cfg0.N) (u : Fin 12) (hu : (u : ℕ) = t) (g : Fin 6) (d : Fin 160) (b : Fin 192) :
    iblk0 V c 2 t (ix4 0 g d b) = V c (Pipeline.arrRef spec0 2) (ix4 u g d b) := by
  blk_ext [iblk0, idx0 t]

/-- The scales are read whole at every point. -/
theorem qblock0 (c : Dev nD) (t : Fin cfg0.N) (r : Fin 2) (g : Fin 6) :
    iblk0 V c 0 t (ix2 r g) = V c (Pipeline.arrRef spec0 0) (ix2 r g) := by
  blk_ext [iblk0, idx0 t]

/-- A stored key block is the key codes' entry, when its operands are loaded at head `g`. -/
theorem key_of_loads (c : Dev nD) (t : Fin cfg0.N) (g : ℕ) (hg : g < 6) (i : S12x6x160x192.Idx) (x : S1x1x160x192.Idx)
    (h0 : (i 0 : ℕ) = t) (h1 : (i 1 : ℕ) = g) (h2 : (i 2 : ℕ) = (x 2 : ℕ)) (h3 : (i 3 : ℕ) = (x 3 : ℕ)) {b0 b1 p0} :
    quantOut (View.ld (S := S2x6) (iblk0 V c 0 t) (Rect.unit ![0, g] ![1, 1] b0) (Shape.Idx.first p0))
        (View.ld (S := S1x6x160x192) (iblk0 V c 1 t) (Rect.unit ![0, g, 0, 0] ![1, 1, 160, 192] b1)) x =
      quantArr 0 (V c (Pipeline.arrRef spec0 0)) (V c (Pipeline.arrRef spec0 1)) i := by
  subst h1
  refine quantOut_eq_quantArr i x h2 h3 (Eq.trans ?_ (qblock0 V c t _ _)) fun d b => Eq.trans ?_ (qblock1 V c t _ h0 _ d b)
  · exact View.ld_unit_apply_of _ _ _ _ _ _ fun a => match a with | 0 => rfl | 1 => rfl
  · exact View.ld_unit_apply_of _ _ _ _ _ _ fun a => match a with
      | 0 => rfl | 1 => rfl | 2 => (Nat.zero_add _).symm | 3 => (Nat.zero_add _).symm

/-- The region leaves the codes of the key array. -/
theorem key_arr (c : Dev nD) : (dat0 V c).arrAt 3 cfg0.N =
    (quantArr 0 (V c (Pipeline.arrRef spec0 0)) (V c (Pipeline.arrRef spec0 1)) : FVec Ideal S12x6x160x192 .fp8e4m3) := by
  refine (dat0 V c).arrAt_eq_of_covers 3 _ (by decide +kernel) fun t _ y => ?_
  rw [after0_3]
  unfold outsAt0
  frame_out
  canon_tiles x h
  case piece0 =>
    exact key_of_loads V c t 5 (by decide) _ x (by blk_simp [idx0 t]) (by blk_simp [idx0 t]; exact h1.trans (by omega))
      (by blk_simp [idx0 t]; exact h2) (by blk_simp [idx0 t]; exact h3)
  case piece1 =>
    exact key_of_loads V c t 4 (by decide) _ x (by blk_simp [idx0 t]) (by blk_simp [idx0 t]; exact h1.trans (by omega))
      (by blk_simp [idx0 t]; exact h2) (by blk_simp [idx0 t]; exact h3)
  case piece2 =>
    exact key_of_loads V c t 3 (by decide) _ x (by blk_simp [idx0 t]) (by blk_simp [idx0 t]; exact h1.trans (by omega))
      (by blk_simp [idx0 t]; exact h2) (by blk_simp [idx0 t]; exact h3)
  case piece3 =>
    exact key_of_loads V c t 2 (by decide) _ x (by blk_simp [idx0 t]) (by blk_simp [idx0 t]; exact h1.trans (by omega))
      (by blk_simp [idx0 t]; exact h2) (by blk_simp [idx0 t]; exact h3)
  case piece4 =>
    exact key_of_loads V c t 1 (by decide) _ x (by blk_simp [idx0 t]) (by blk_simp [idx0 t]; exact h1.trans (by omega))
      (by blk_simp [idx0 t]; exact h2) (by blk_simp [idx0 t]; exact h3)
  case piece5 =>
    exact key_of_loads V c t 0 (by decide) _ x (by blk_simp [idx0 t]) (by blk_simp [idx0 t]; exact h1.trans (by omega))
      (by blk_simp [idx0 t]; exact h2) (by blk_simp [idx0 t]; exact h3)

/-- A stored value block is the value codes' entry, when its operands are loaded at head `g`. -/
theorem value_of_loads (c : Dev nD) (t : Fin cfg0.N) (g : ℕ) (hg : g < 6) (i : S12x6x160x192.Idx) (x : S1x1x160x192.Idx)
    (h0 : (i 0 : ℕ) = t) (h1 : (i 1 : ℕ) = g) (h2 : (i 2 : ℕ) = (x 2 : ℕ)) (h3 : (i 3 : ℕ) = (x 3 : ℕ)) {b0 b1 p0} :
    quantOut (View.ld (S := S2x6) (iblk0 V c 0 t) (Rect.unit ![1, g] ![1, 1] b0) (Shape.Idx.first p0))
        (View.ld (S := S1x6x160x192) (iblk0 V c 2 t) (Rect.unit ![0, g, 0, 0] ![1, 1, 160, 192] b1)) x =
      quantArr 1 (V c (Pipeline.arrRef spec0 0)) (V c (Pipeline.arrRef spec0 2)) i := by
  subst h1
  refine quantOut_eq_quantArr i x h2 h3 (Eq.trans ?_ (qblock0 V c t _ _)) fun d b => Eq.trans ?_ (qblock2 V c t _ h0 _ d b)
  · exact View.ld_unit_apply_of _ _ _ _ _ _ fun a => match a with | 0 => rfl | 1 => rfl
  · exact View.ld_unit_apply_of _ _ _ _ _ _ fun a => match a with
      | 0 => rfl | 1 => rfl | 2 => (Nat.zero_add _).symm | 3 => (Nat.zero_add _).symm

/-- The region leaves the codes of the value array. -/
theorem value_arr (c : Dev nD) : (dat0 V c).arrAt 4 cfg0.N =
    (quantArr 1 (V c (Pipeline.arrRef spec0 0)) (V c (Pipeline.arrRef spec0 2)) : FVec Ideal S12x6x160x192 .fp8e4m3) := by
  refine (dat0 V c).arrAt_eq_of_covers 4 _ (by decide +kernel) fun t _ y => ?_
  rw [after0_4]
  unfold outsAt0
  frame_out
  canon_tiles x h
  case piece0 =>
    exact value_of_loads V c t 5 (by decide) _ x (by blk_simp [idx0 t]) (by blk_simp [idx0 t]; exact h1.trans (by omega))
      (by blk_simp [idx0 t]; exact h2) (by blk_simp [idx0 t]; exact h3)
  case piece1 =>
    exact value_of_loads V c t 4 (by decide) _ x (by blk_simp [idx0 t]) (by blk_simp [idx0 t]; exact h1.trans (by omega))
      (by blk_simp [idx0 t]; exact h2) (by blk_simp [idx0 t]; exact h3)
  case piece2 =>
    exact value_of_loads V c t 3 (by decide) _ x (by blk_simp [idx0 t]) (by blk_simp [idx0 t]; exact h1.trans (by omega))
      (by blk_simp [idx0 t]; exact h2) (by blk_simp [idx0 t]; exact h3)
  case piece3 =>
    exact value_of_loads V c t 2 (by decide) _ x (by blk_simp [idx0 t]) (by blk_simp [idx0 t]; exact h1.trans (by omega))
      (by blk_simp [idx0 t]; exact h2) (by blk_simp [idx0 t]; exact h3)
  case piece4 =>
    exact value_of_loads V c t 1 (by decide) _ x (by blk_simp [idx0 t]) (by blk_simp [idx0 t]; exact h1.trans (by omega))
      (by blk_simp [idx0 t]; exact h2) (by blk_simp [idx0 t]; exact h3)
  case piece5 =>
    exact value_of_loads V c t 0 (by decide) _ x (by blk_simp [idx0 t]) (by blk_simp [idx0 t]; exact h1.trans (by omega))
      (by blk_simp [idx0 t]; exact h2) (by blk_simp [idx0 t]; exact h3)

end Cert.KernelIdeal.Value

end
-- ==== Proof.KernelVal.lean ====
/-
  The kernel's results as functions of its arguments: the host operations around its two regions read, entry by entry, down to
  the arguments.
-/
module

public import proofs.«01_k».proof.Proof.Gen.KernelIdeal.Frame
public import proofs.«01_k».proof.Proof.Attend
public import proofs.«01_k».proof.Proof.Quant
public import Idealize.ShloMosaic.Lib.Claim
public import Idealize.ShloMosaic.Lib.Pointwise
public import Idealize.ShloMosaic.Lib.StableHlo.RunRead
public import Idealize.ShloMosaic.Lib.Pipeline.ValueKit

@[expose] public section

set_option maxRecDepth 16384

noncomputable section

namespace Cert.KernelIdeal.Value

open Cert.KernelIdeal Cert.KernelIdeal.Gen
open Idealize.ShloMosaic Idealize.ShloMosaic.TcCoe Idealize.SL.Sem

section Stretches

variable (Y : Valuation τ sig (Elt Ideal))

/-- The first row of the scales is the key scales. -/
theorem scales_key (g : Fin 6) :
    (StableHlo.after hostOps0 Y (Proc.devRef .tc main_v2) : FVec Ideal S2x6 .f32) (ix2 0 g) = (Y (Proc.devRef .tc main_arg5) : FVec Ideal S6 .f32) (ix1 g) := by
  after_reads_simp
  pointwise

/-- The second row of the scales is the value scales. -/
theorem scales_value (g : Fin 6) :
    (StableHlo.after hostOps0 Y (Proc.devRef .tc main_v2) : FVec Ideal S2x6 .f32) (ix2 1 g) = (Y (Proc.devRef .tc main_arg6) : FVec Ideal S6 .f32) (ix1 g) := by
  after_reads_simp
  pointwise

/-- The new keys reach the quantisation region with the sequence last. -/
theorem new_keys (b : Fin 192) (t : Fin 12) (g : Fin 6) (d : Fin 160) :
    (StableHlo.after hostOps0 Y (Proc.devRef .tc main_v3) : FVec Ideal S12x6x160x192 .bf16) (ix4 t g d b) = (Y (Proc.devRef .tc main_arg1) : FVec Ideal S192x12x6x160 .bf16) (ix4 b t g d) := by
  after_reads_simp
  pointwise

/-- The new values reach the quantisation region with the sequence last. -/
theorem new_values (b : Fin 192) (t : Fin 12) (g : Fin 6) (d : Fin 160) :
    (StableHlo.after hostOps0 Y (Proc.devRef .tc main_v4) : FVec Ideal S12x6x160x192 .bf16) (ix4 t g d b) = (Y (Proc.devRef .tc main_arg2) : FVec Ideal S192x12x6x160 .bf16) (ix4 b t g d) := by
  after_reads_simp
  pointwise

/-- The queries reach the attention region grouped by key head: row `n` is time step `n / 8`, query head `n % 8` of the group. -/
theorem queries (b : Fin 192) (g : Fin 6) (n : Fin 96) (d : Fin 160) :
    (StableHlo.after hostOps1 Y (Proc.devRef .tc main_v8) : FVec Ideal S192x6x96x160 .bf16) (ix4 b g n d) =
    (Y (Proc.devRef .tc main_arg0) : FVec Ideal S192x12x7680 .bf16)
      (ix3 b ⟨n.val / 8, by omega⟩ ⟨g.val * 1280 + n.val % 8 * 160 + d.val, by omega⟩) := by
  after_reads_simp
  pointwise

/-- The cached keys reach the attention region with the position last. -/
theorem cached_keys (b : Fin 192) (t : Fin 1536) (g : Fin 6) (d : Fin 160) :
    (StableHlo.after hostOps1 Y (Proc.devRef .tc main_v9) : FVec Ideal S192x6x160x1536 .fp8e4m3) (ix4 b g d t) = (Y (Proc.devRef .tc main_arg3) : FVec Ideal S192x1536x6x160 .fp8e4m3) (ix4 b t g d) := by
  after_reads_simp
  pointwise

/-- The cached values reach the attention region with the position last. -/
theorem cached_values (b : Fin 192) (t : Fin 1536) (g : Fin 6) (d : Fin 160) :
    (StableHlo.after hostOps1 Y (Proc.devRef .tc main_v10) : FVec Ideal S192x6x160x1536 .fp8e4m3) (ix4 b g d t) = (Y (Proc.devRef .tc main_arg4) : FVec Ideal S192x1536x6x160 .fp8e4m3) (ix4 b t g d) := by
  after_reads_simp
  pointwise

/-- The codes of the new keys reach the attention region with the sequence first. -/
theorem codes_keys (b : Fin 192) (t : Fin 12) (g : Fin 6) (d : Fin 160) :
    (StableHlo.after hostOps1 Y (Proc.devRef .tc main_v11) : FVec Ideal S192x6x160x12 .fp8e4m3) (ix4 b g d t) = (Y (Proc.devRef .tc main_v5_0) : FVec Ideal S12x6x160x192 .fp8e4m3) (ix4 t g d b) := by
  after_reads_simp
  pointwise

/-- The codes of the new values reach the attention region with the sequence first. -/
theorem codes_values (b : Fin 192) (t : Fin 12) (g : Fin 6) (d : Fin 160) :
    (StableHlo.after hostOps1 Y (Proc.devRef .tc main_v12) : FVec Ideal S192x6x160x12 .fp8e4m3) (ix4 b g d t) = (Y (Proc.devRef .tc main_v5_1) : FVec Ideal S12x6x160x192 .fp8e4m3) (ix4 t g d b) := by
  after_reads_simp
  pointwise

/-- The first result reads the attention array back in the layout of the queries. -/
theorem result_out (b : Fin 192) (t : Fin 12) (l : Fin 7680) :
    (StableHlo.after hostOps2 Y (Proc.devRef .tc main_v16) : FVec Ideal S192x12x7680 .bf16) (ix3 b t l) =
    (Y (Proc.devRef .tc main_v13) : FVec Ideal S192x6x96x160 .bf16)
      (ix4 b ⟨l.val / 1280, by omega⟩ ⟨t.val * 8 + l.val / 160 % 8, by omega⟩ ⟨l.val % 160, by omega⟩) := by
  after_reads_simp
  pointwise

/-- The result holding the codes of the new keys has the sequence first. -/
theorem result_keys (b : Fin 192) (t : Fin 12) (g : Fin 6) (d : Fin 160) :
    (StableHlo.after hostOps2 Y (Proc.devRef .tc main_v17) : FVec Ideal S192x12x6x160 .fp8e4m3) (ix4 b t g d) = (Y (Proc.devRef .tc main_v5_0) : FVec Ideal S12x6x160x192 .fp8e4m3) (ix4 t g d b) := by
  after_reads_simp
  pointwise

/-- The result holding the codes of the new values has the sequence first. -/
theorem result_values (b : Fin 192) (t : Fin 12) (g : Fin 6) (d : Fin 160) :
    (StableHlo.after hostOps2 Y (Proc.devRef .tc main_v18) : FVec Ideal S192x12x6x160 .fp8e4m3) (ix4 b t g d) = (Y (Proc.devRef .tc main_v5_1) : FVec Ideal S12x6x160x192 .fp8e4m3) (ix4 t g d b) := by
  after_reads_simp
  pointwise

end Stretches

variable (m : (ℓ : Loc nD τ sig) → Buf (Elt Ideal) ℓ) (ρ : Dev nD → PrngReg) (c : Dev nD)

/-- The queries a device is launched with. -/
abbrev argQ : FVec Ideal S192x12x7680 .bf16 := m ((c.tc : Thread nD τ).loc main_arg0)

/-- The new keys a device is launched with. -/
abbrev argK : FVec Ideal S192x12x6x160 .bf16 := m ((c.tc : Thread nD τ).loc main_arg1)

/-- The new values a device is launched with. -/
abbrev argV : FVec Ideal S192x12x6x160 .bf16 := m ((c.tc : Thread nD τ).loc main_arg2)

/-- The cached keys a device is launched with. -/
abbrev argCk : FVec Ideal S192x1536x6x160 .fp8e4m3 := m ((c.tc : Thread nD τ).loc main_arg3)

/-- The cached values a device is launched with. -/
abbrev argCv : FVec Ideal S192x1536x6x160 .fp8e4m3 := m ((c.tc : Thread nD τ).loc main_arg4)

/-- The key scales a device is launched with. -/
abbrev argKs : FVec Ideal S6 .f32 := m ((c.tc : Thread nD τ).loc main_arg5)

/-- The value scales a device is launched with. -/
abbrev argVs : FVec Ideal S6 .f32 := m ((c.tc : Thread nD τ).loc main_arg6)

/-- The sequence lengths a device is launched with. -/
abbrev argLen : IVec S192 32 := m ((c.tc : Thread nD τ).loc main_arg7)

/-- Query row `n` of head `g` of sequence `b`. -/
def argQRow (b : Fin 192) (g : Fin 6) (n : Fin 96) (d : Fin 160) : EReal :=
  argQ m c (ix3 b ⟨n.val / 8, by omega⟩ ⟨g.val * 1280 + n.val % 8 * 160 + d.val, by omega⟩)

/-- The codes of the new keys the quantisation region leaves, from the arguments. -/
theorem keys_read (b : Fin 192) (t : Fin 12) (g : Fin 6) (d : Fin 160) :
    (W2 m ρ c (Proc.devRef .tc main_v5_0) : FVec Ideal S12x6x160x192 .fp8e4m3) (ix4 t g d b) =
      Attend.code (argKs m c (ix1 g)) (argK m c (ix4 b t g d)) := by
  rw [show W2 m ρ c (Proc.devRef .tc main_v5_0) = _ from (W2_arr m ρ c 3).trans (key_arr (V1 m ρ) c)]
  exact congrArg₂ Attend.code (scales_key (W0 m ρ c) g) (new_keys (W0 m ρ c) b t g d)

/-- The result holding the codes of the new keys: each entry quantised with the scale of its head. -/
theorem keys_result (b : Fin 192) (t : Fin 12) (g : Fin 6) (d : Fin 160) :
    (W5 m ρ c (Proc.devRef .tc main_v17) : FVec Ideal S192x12x6x160 .fp8e4m3) (ix4 b t g d) =
      Attend.code (argKs m c (ix1 g)) (argK m c (ix4 b t g d)) := by
  rw [← keys_read m ρ c b t g d, ← W3_of m ρ c main_v5_0 (by decide), ← W4_of m ρ c main_v5_0 (by decide)]
  exact result_keys (W4 m ρ c) b t g d

/-- The codes of the new values the quantisation region leaves, from the arguments. -/
theorem values_read (b : Fin 192) (t : Fin 12) (g : Fin 6) (d : Fin 160) :
    (W2 m ρ c (Proc.devRef .tc main_v5_1) : FVec Ideal S12x6x160x192 .fp8e4m3) (ix4 t g d b) =
      Attend.code (argVs m c (ix1 g)) (argV m c (ix4 b t g d)) := by
  rw [show W2 m ρ c (Proc.devRef .tc main_v5_1) = _ from (W2_arr m ρ c 4).trans (value_arr (V1 m ρ) c)]
  exact congrArg₂ Attend.code (scales_value (W0 m ρ c) g) (new_values (W0 m ρ c) b t g d)

/-- The result holding the codes of the new values: each entry quantised with the scale of its head. -/
theorem values_result (b : Fin 192) (t : Fin 12) (g : Fin 6) (d : Fin 160) :
    (W5 m ρ c (Proc.devRef .tc main_v18) : FVec Ideal S192x12x6x160 .fp8e4m3) (ix4 b t g d) =
      Attend.code (argVs m c (ix1 g)) (argV m c (ix4 b t g d)) := by
  rw [← values_read m ρ c b t g d, ← W3_of m ρ c main_v5_1 (by decide), ← W4_of m ρ c main_v5_1 (by decide)]
  exact result_values (W4 m ρ c) b t g d

/-- The attention result: the kernel form of the attention row of its sequence, head and query row. -/
theorem out_result (b : Fin 192) (t : Fin 12) (l : Fin 7680) :
    (W5 m ρ c (Proc.devRef .tc main_v16) : FVec Ideal S192x12x7680 .bf16) (ix3 b t l) =
    Attend.outK
      (Attend.scoreC (argLen m c (ix1 b)) (argKs m c (ix1 ⟨l.val / 1280, by omega⟩))
        (argQRow m c b ⟨l.val / 1280, by omega⟩ ⟨t.val * 8 + l.val / 160 % 8, by omega⟩)
        fun t d => argCk m c (ix4 b t ⟨l.val / 1280, by omega⟩ d))
      (Attend.scoreN ⟨t.val * 8 + l.val / 160 % 8, by omega⟩ (argKs m c (ix1 ⟨l.val / 1280, by omega⟩))
        (argQRow m c b ⟨l.val / 1280, by omega⟩ ⟨t.val * 8 + l.val / 160 % 8, by omega⟩)
        fun t d => Attend.code (argKs m c (ix1 ⟨l.val / 1280, by omega⟩)) (argK m c (ix4 b t ⟨l.val / 1280, by omega⟩ d)))
      (argVs m c (ix1 ⟨l.val / 1280, by omega⟩))
      (fun t => argCv m c (ix4 b t ⟨l.val / 1280, by omega⟩ ⟨l.val % 160, by omega⟩))
      fun t => Attend.code (argVs m c (ix1 ⟨l.val / 1280, by omega⟩))
        (argV m c (ix4 b t ⟨l.val / 1280, by omega⟩ ⟨l.val % 160, by omega⟩)) := by
  refine (result_out (W4 m ρ c) b t l).trans ?_
  rw [show W4 m ρ c (Proc.devRef .tc main_v13) = _ from (W4_arr m ρ c 7).trans (attend_arr (V3 m ρ) c)]
  generalize (⟨l.val / 1280, by omega⟩ : Fin 6) = g
  generalize (⟨t.val * 8 + l.val / 160 % 8, by omega⟩ : Fin 96) = n
  generalize (⟨l.val % 160, by omega⟩ : Fin 160) = d
  have hlen : (V3 m ρ c (Pipeline.arrRef spec1 0) : IVec S192 32) = argLen m c := W3_args m ρ c main_arg7 (by decide)
  have hsc : (V3 m ρ c (Pipeline.arrRef spec1 1) : FVec Ideal S2x6 .f32) = W1 m ρ c (Proc.devRef .tc main_v2) :=
    (W3_of m ρ c main_v2 (by decide)).trans (W2_of m ρ c main_v2 (by decide))
  have hks : (V3 m ρ c (Pipeline.arrRef spec1 1) : FVec Ideal S2x6 .f32) (ix2 0 g) = argKs m c (ix1 g) := by
    rw [hsc]; exact scales_key (W0 m ρ c) g
  have hvs : (V3 m ρ c (Pipeline.arrRef spec1 1) : FVec Ideal S2x6 .f32) (ix2 1 g) = argVs m c (ix1 g) := by
    rw [hsc]; exact scales_value (W0 m ρ c) g
  have hq : ∀ d, (V3 m ρ c (Pipeline.arrRef spec1 2) : FVec Ideal S192x6x96x160 .bf16) (ix4 b g n d) = argQRow m c b g n d :=
    fun d => (queries (W2 m ρ c) b g n d).trans (by rw [W2_args m ρ c main_arg0 (by decide)]; rfl)
  have hck : ∀ d t, (V3 m ρ c (Pipeline.arrRef spec1 3) : FVec Ideal S192x6x160x1536 .fp8e4m3) (ix4 b g d t) = argCk m c (ix4 b t g d) :=
    fun d t => (cached_keys (W2 m ρ c) b t g d).trans (by rw [W2_args m ρ c main_arg3 (by decide)])
  have hcv : ∀ d t, (V3 m ρ c (Pipeline.arrRef spec1 4) : FVec Ideal S192x6x160x1536 .fp8e4m3) (ix4 b g d t) = argCv m c (ix4 b t g d) :=
    fun d t => (cached_values (W2 m ρ c) b t g d).trans (by rw [W2_args m ρ c main_arg4 (by decide)])
  have hkn : ∀ d t, (V3 m ρ c (Pipeline.arrRef spec1 5) : FVec Ideal S192x6x160x12 .fp8e4m3) (ix4 b g d t) =
      Attend.code (argKs m c (ix1 g)) (argK m c (ix4 b t g d)) :=
    fun d t => (codes_keys (W2 m ρ c) b t g d).trans (keys_read m ρ c b t g d)
  have hvn : ∀ d t, (V3 m ρ c (Pipeline.arrRef spec1 6) : FVec Ideal S192x6x160x12 .fp8e4m3) (ix4 b g d t) =
      Attend.code (argVs m c (ix1 g)) (argV m c (ix4 b t g d)) :=
    fun d t => (codes_values (W2 m ρ c) b t g d).trans (values_read m ρ c b t g d)
  unfold attendArr
  change Attend.outK (Attend.scoreC ((V3 m ρ c (Pipeline.arrRef spec1 0) : IVec S192 32) (ix1 b)) _ _ _) _ _ _ _ = _
  simp only [hlen]
  exact congr (congr (congrArg₂ _ (congr (congrArg₂ _ hks (funext hq)) (funext fun t => funext fun d => hck d t))
    (congr (congrArg₂ _ hks (funext hq)) (funext fun t => funext fun d => hkn d t)) |> fun h => congr h hvs)
    (funext fun t => hcv d t)) (funext fun t => hvn d t)

end Cert.KernelIdeal.Value

end
-- ==== Proof.RefTail.lean ====
/-
  The reference's host operations after its kernel: what each intermediate array holds, entry by entry, and from them the
  attention row in the reference form.
-/
module

public import proofs.«01_k».proof.Proof.Gen.ReferenceIdeal.Frame
public import proofs.«01_k».proof.Proof.Math
public import Idealize.ShloMosaic.Lib.Claim
public import Idealize.ShloMosaic.Lib.Pointwise
public import Idealize.ShloMosaic.Lib.StableHlo.RunRead
public import Idealize.ShloMosaic.Lib.StableHlo.RunClose
public import Idealize.ShloMosaic.Lib.Pipeline.ValueKit

@[expose] public section

set_option maxRecDepth 16384

noncomputable section

namespace Cert.ReferenceIdeal.Value

open Cert.ReferenceIdeal Cert.ReferenceIdeal.Gen
open Idealize.ShloMosaic Idealize.ShloMosaic.TcCoe Idealize.SL.Sem

/-- The operations before the last stretch. -/
abbrev preOps : List (HloOp τ sig (Elt Ideal)) :=
  [hostOps1, hostOps1_1, hostOps1_2, hostOps1_3, hostOps1_4, hostOps1_5, hostOps1_6, hostOps1_7].flatten

variable (X : Valuation τ sig (Elt Ideal))

/-- The queries. -/
abbrev qIn : FVec Ideal S192x12x7680 .bf16 := X (Proc.devRef .tc main_arg0)
/-- The key scales. -/
abbrev ksIn : FVec Ideal S6 .f32 := X (Proc.devRef .tc main_arg5)
/-- The value scales. -/
abbrev vsIn : FVec Ideal S6 .f32 := X (Proc.devRef .tc main_arg6)
/-- The sequence lengths. -/
abbrev lenIn : IVec S192 32 := X (Proc.devRef .tc main_arg7)
/-- The new keys, as the kernel of the reference leaves them. -/
abbrev knIn : FVec Ideal S192x12x6x160 .bf16 := X (Proc.devRef .tc main_v2_2)
/-- The new values, as the kernel of the reference leaves them. -/
abbrev vnIn : FVec Ideal S192x12x6x160 .bf16 := X (Proc.devRef .tc main_v2_3)
/-- The cached keys, as the kernel of the reference leaves them. -/
abbrev ckIn : FVec Ideal S192x1536x6x160 .bf16 := X (Proc.devRef .tc main_v2_4)
/-- The cached values, as the kernel of the reference leaves them. -/
abbrev cvIn : FVec Ideal S192x1536x6x160 .bf16 := X (Proc.devRef .tc main_v2_5)
/-- Query row `n` of head `g`: row `n` is time step `n / 8` and query head `n % 8` of the group. -/
def qRow (b : Fin 192) (g : Fin 6) (n : Fin 96) (d : Fin 160) : EReal :=
  qIn X (ix3 b ⟨n.val / 8, by omega⟩ ⟨g.val * 1280 + n.val % 8 * 160 + d.val, by omega⟩)

/-- What the operations leave in `v12`: the scaled scores against the cache, unmasked. -/
def rC : FVec Ideal S192x6x96x1536 .f32 := StableHlo.after preOps X (Proc.devRef .tc main_v12)

/-- What the operations leave in `v17`: the scaled scores against the new keys, unmasked. -/
def rN : FVec Ideal S192x6x96x12 .f32 := StableHlo.after preOps X (Proc.devRef .tc main_v17)

/-- What the operations leave in `v27`: the time step of each query row. -/
def fd : IVec S96 32 := StableHlo.after preOps X (Proc.devRef .tc main_v27)

/-- What the operations leave in `v32`: the mask of the cached positions. -/
def mk : IVec S192x1x1x1536 1 := StableHlo.after preOps X (Proc.devRef .tc main_v32)

/-- What the operations leave in `v33`: the masked scores against the cache. -/
def sC : FVec Ideal S192x6x96x1536 .f32 := StableHlo.after preOps X (Proc.devRef .tc main_v33)

/-- What the operations leave in `v34`: the causal mask among the new positions. -/
def cs : IVec S1x1x96x12 1 := StableHlo.after preOps X (Proc.devRef .tc main_v34)

/-- What the operations leave in `v35`: the masked scores against the new keys. -/
def sN : FVec Ideal S192x6x96x12 .f32 := StableHlo.after preOps X (Proc.devRef .tc main_v35)

/-- What the operations leave in `v40`: the largest score of each row. -/
def mx : FVec Ideal S192x6x96x1 .f32 := StableHlo.after preOps X (Proc.devRef .tc main_v40)

/-- What the operations leave in `v43`: the weights of the cached positions. -/
def eC : FVec Ideal S192x6x96x1536 .f32 := StableHlo.after preOps X (Proc.devRef .tc main_v43)

/-- What the operations leave in `v46`: the weights of the new positions. -/
def eN : FVec Ideal S192x6x96x12 .f32 := StableHlo.after preOps X (Proc.devRef .tc main_v46)

/-- What the operations leave in `v51`: the sum of the weights of each row. -/
def den : FVec Ideal S192x6x96x1 .f32 := StableHlo.after preOps X (Proc.devRef .tc main_v51)

/-- What the operations leave in `v54`: the sum of the weights, a zero replaced by one. -/
def dn : FVec Ideal S192x6x96x1 .f32 := StableHlo.after preOps X (Proc.devRef .tc main_v54)

variable (b : Fin 192) (g : Fin 6) (n : Fin 96)

/-- An unmasked score: the dot product times the key scale times the softmax scale. -/
theorem rC_apply (t : Fin 1536) : rC X (ix4 b g n t) =
    (∑ x : Fin 160, qRow X b g n x * ckIn X (ix4 b t g x)) * ksIn X (ix1 g) * Attend.scale := by
  unfold rC Attend.scale qRow
  after_reads_simp
  pointwise

/-- An unmasked score: the dot product times the key scale times the softmax scale. -/
theorem rN_apply (t : Fin 12) : rN X (ix4 b g n t) =
    (∑ x : Fin 160, qRow X b g n x * knIn X (ix4 b t g x)) * ksIn X (ix1 g) * Attend.scale := by
  unfold rN Attend.scale qRow
  after_reads_simp
  pointwise

/-- The cache mask: position below the sequence length. -/
theorem mk_apply (t : Fin 1536) : mk X (ix4 b 0 0 t) = Attend.maskC (lenIn X (ix1 b)) t := by
  unfold mk Attend.maskC
  after_reads_simp
  pointwise

/-- The time steps as floor division of the row numbers by eight. -/
theorem fd_eq : fd X =
    select (andi (cmpi .ne (signi (iotaInDim S96 32 0)) (broadcastInDim S96 ![] bcast_S_S96 (signi (constantI S_ 32 8#32))))
        (cmpi .ne (Host.remsi (iotaInDim S96 32 0) (broadcastInDim S96 ![] bcast_S_S96 (constantI S_ 32 8#32)))
          (broadcastInDim S96 ![] bcast_S_S96 (constantI S_ 32 0#32))))
      (subi (Host.divsi (iotaInDim S96 32 0) (broadcastInDim S96 ![] bcast_S_S96 (constantI S_ 32 8#32)))
        (broadcastInDim S96 ![] bcast_S_S96 (constantI S_ 32 1#32)))
      (Host.divsi (iotaInDim S96 32 0) (broadcastInDim S96 ![] bcast_S_S96 (constantI S_ 32 8#32))) := by
  unfold fd
  after_reads_simp
  rfl

/-- The time step of row `n` is `n / 8`. -/
theorem fd_apply : fd X (ix1 n) = BitVec.ofNat 32 (n.val / 8) := by
  rw [fd_eq]
  pointwise
  revert n
  decide

/-- The causal mask as an array. -/
theorem cs_eq : cs X = broadcastInDim S1x1x96x12 ![2, 3] bcast_S96x12_S1x1x96x12_2_3
    (cmpi .sle (broadcastInDim S96x12 ![0, 1] bcast_S1x12_S96x12_0_1 (broadcastInDim S1x12 ![1] bcast_S12_S1x12_1 (iotaInDim S12 32 0)))
      (broadcastInDim S96x12 ![0, 1] bcast_S96x1_S96x12_0_1 (broadcastInDim S96x1 ![0] bcast_S96_S96x1_0 (fd X)))) := by
  unfold cs fd
  after_reads_simp

/-- The causal mask, entry by entry. -/
theorem cs_read (f : IVec S96 32) (t : Fin 12) : broadcastInDim S1x1x96x12 ![2, 3] bcast_S96x12_S1x1x96x12_2_3
    (cmpi .sle (broadcastInDim S96x12 ![0, 1] bcast_S1x12_S96x12_0_1 (broadcastInDim S1x12 ![1] bcast_S12_S1x12_1 (iotaInDim S12 32 0)))
      (broadcastInDim S96x12 ![0, 1] bcast_S96x1_S96x12_0_1 (broadcastInDim S96x1 ![0] bcast_S96_S96x1_0 f))) (ix4 0 0 n t) =
    IntOp.cmpi .sle (BitVec.ofNat 32 t) (f (ix1 n)) := by
  skip
  pointwise

/-- The causal mask: a new position no later than the row's time step. -/
theorem cs_apply (t : Fin 12) : cs X (ix4 0 0 n t) = Attend.maskN n t := by
  rw [cs_eq, cs_read, fd_apply]
  rfl

/-- The masked scores as an array. -/
theorem sC_eq : sC X = select (broadcastInDim S192x6x96x1536 ![0, 1, 2, 3] bcast_S192x1x1x1536_S192x6x96x1536_0_1_2_3 (mk X)) (rC X)
    (broadcastInDim S192x6x96x1536 ![] bcast_S_S192x6x96x1536 (constant S_ .f32 0xFF800000#32 : FVec Ideal S_ .f32)) := by
  unfold sC mk rC
  after_reads_simp
  rfl

/-- A masked score. -/
theorem sC_apply (t : Fin 1536) : sC X (ix4 b g n t) = Scalar.select (mk X (ix4 b 0 0 t)) (rC X (ix4 b g n t)) Attend.ninf := by
  unfold Attend.ninf
  rw [sC_eq]
  pointwise

/-- The masked scores as an array. -/
theorem sN_eq : sN X = select (broadcastInDim S192x6x96x12 ![0, 1, 2, 3] bcast_S1x1x96x12_S192x6x96x12_0_1_2_3 (cs X)) (rN X)
    (broadcastInDim S192x6x96x12 ![] bcast_S_S192x6x96x12 (constant S_ .f32 0xFF800000#32 : FVec Ideal S_ .f32)) := by
  unfold sN cs rN
  after_reads_simp
  rfl

/-- A masked score. -/
theorem sN_apply (t : Fin 12) : sN X (ix4 b g n t) = Scalar.select (cs X (ix4 0 0 n t)) (rN X (ix4 b g n t)) Attend.ninf := by
  unfold Attend.ninf
  rw [sN_eq]
  pointwise

/-- The largest entry of a row, from minus infinity. -/
theorem foldC (A : FVec Ideal S192x6x96x1536 .f32) : Host.reduce FloatOps.maximumf A (constant S_ .f32 0xFF800000#32 : FVec Ideal S_ .f32)
    reducesTo_S192x6x96x1536_S192x6x96_d3 h_S_ (ix3 b g n) = Finset.univ.fold max Attend.ninf fun t => A (ix4 b g n t) := by
  unfold Attend.ninf
  pointwise

/-- The largest entry of a row, from minus infinity. -/
theorem foldN (A : FVec Ideal S192x6x96x12 .f32) : Host.reduce FloatOps.maximumf A (constant S_ .f32 0xFF800000#32 : FVec Ideal S_ .f32)
    reducesTo_S192x6x96x12_S192x6x96_d3 h_S_ (ix3 b g n) = Finset.univ.fold max Attend.ninf fun t => A (ix4 b g n t) := by
  unfold Attend.ninf
  pointwise

/-- The row maxima as an array. -/
theorem mx_eq : mx X = maximumf
    (broadcastInDim S192x6x96x1 ![0, 1, 2] bcast_S192x6x96_S192x6x96x1_0_1_2 (Host.reduce FloatOps.maximumf (sC X) (constant S_ .f32 0xFF800000#32 : FVec Ideal S_ .f32) reducesTo_S192x6x96x1536_S192x6x96_d3 h_S_))
    (broadcastInDim S192x6x96x1 ![0, 1, 2] bcast_S192x6x96_S192x6x96x1_0_1_2 (Host.reduce FloatOps.maximumf (sN X) (constant S_ .f32 0xFF800000#32 : FVec Ideal S_ .f32) reducesTo_S192x6x96x12_S192x6x96_d3 h_S_)) := by
  unfold mx sC sN
  after_reads_simp

/-- The larger of two columns. -/
theorem mx_read (A B : FVec Ideal S192x6x96 .f32) : maximumf (broadcastInDim S192x6x96x1 ![0, 1, 2] bcast_S192x6x96_S192x6x96x1_0_1_2 A) (broadcastInDim S192x6x96x1 ![0, 1, 2] bcast_S192x6x96_S192x6x96x1_0_1_2 B) (ix4 b g n 0) = max (A (ix3 b g n)) (B (ix3 b g n)) := by
  skip
  pointwise

/-- The largest score of a row. -/
theorem mx_apply : mx X (ix4 b g n 0) = Attend.top (fun t => sC X (ix4 b g n t)) fun t => sN X (ix4 b g n t) := by
  rw [mx_eq, mx_read, foldC, foldN]
  rfl

/-- The weights as an array. -/
theorem eC_eq : eC X = Host.exp (subf (sC X) (broadcastInDim S192x6x96x1536 ![0, 1, 2, 3] bcast_S192x6x96x1_S192x6x96x1536_0_1_2_3 (mx X))) := by
  unfold eC sC mx
  after_reads_simp

/-- A weight. -/
theorem eC_apply (t : Fin 1536) : eC X (ix4 b g n t) = Ideal.exp (sC X (ix4 b g n t) - mx X (ix4 b g n 0)) := by
  rw [eC_eq]
  pointwise

/-- The weights as an array. -/
theorem eN_eq : eN X = Host.exp (subf (sN X) (broadcastInDim S192x6x96x12 ![0, 1, 2, 3] bcast_S192x6x96x1_S192x6x96x12_0_1_2_3 (mx X))) := by
  unfold eN sN mx
  after_reads_simp

/-- A weight. -/
theorem eN_apply (t : Fin 12) : eN X (ix4 b g n t) = Ideal.exp (sN X (ix4 b g n t) - mx X (ix4 b g n 0)) := by
  rw [eN_eq]
  pointwise

/-- The sums of the weights as an array. -/
theorem den_eq : den X = addf
    (broadcastInDim S192x6x96x1 ![0, 1, 2] bcast_S192x6x96_S192x6x96x1_0_1_2 (Host.reduceAdd (eC X) (constant S_ .f32 0x00000000#32 : FVec Ideal S_ .f32) reducesTo_S192x6x96x1536_S192x6x96_d3 h_S_))
    (broadcastInDim S192x6x96x1 ![0, 1, 2] bcast_S192x6x96_S192x6x96x1_0_1_2 (Host.reduceAdd (eN X) (constant S_ .f32 0x00000000#32 : FVec Ideal S_ .f32) reducesTo_S192x6x96x12_S192x6x96_d3 h_S_)) := by
  unfold den eC eN
  after_reads_simp

/-- The sum of the weights of a row. -/
theorem den_apply : den X (ix4 b g n 0) = (∑ t, eC X (ix4 b g n t)) + ∑ t, eN X (ix4 b g n t) := by
  rw [den_eq]
  pointwise

/-- The divisors as an array. -/
theorem dn_eq : dn X = select (cmpf .oeq (den X) (broadcastInDim S192x6x96x1 ![] bcast_S_S192x6x96x1 (constant S_ .f32 0#32 : FVec Ideal S_ .f32)))
    (broadcastInDim S192x6x96x1 ![] bcast_S_S192x6x96x1 (constant S_ .f32 0x3F800000#32 : FVec Ideal S_ .f32)) (den X) := by
  unfold dn den
  after_reads_simp
  rfl

/-- The divisor of a row. -/
theorem dn_apply : dn X (ix4 b g n 0) = if den X (ix4 b g n 0) = 0 then 1 else den X (ix4 b g n 0) := by
  rw [dn_eq]
  pointwise

/-- The last stretch: the weights over the divisor, times the value scale, against the values. -/
theorem last_apply (Y : Valuation τ sig (Elt Ideal)) (t : Fin 12) (l : Fin 7680) : StableHlo.after hostOps1_8 Y (Proc.devRef .tc main_v71) (ix3 b t l) =
    ((∑ x, Ideal.div (Y (Proc.devRef .tc main_v43) (ix4 b ⟨l.val / 1280, by omega⟩ ⟨t.val * 8 + l.val / 160 % 8, by omega⟩ x))
        (Y (Proc.devRef .tc main_v54) (ix4 b ⟨l.val / 1280, by omega⟩ ⟨t.val * 8 + l.val / 160 % 8, by omega⟩ 0))
      * Y (Proc.devRef .tc main_v7) (ix4 0 ⟨l.val / 1280, by omega⟩ 0 0)
      * Y (Proc.devRef .tc main_v2_5) (ix4 b x ⟨l.val / 1280, by omega⟩ ⟨l.val % 160, by omega⟩)) +
    (∑ x, Ideal.div (Y (Proc.devRef .tc main_v46) (ix4 b ⟨l.val / 1280, by omega⟩ ⟨t.val * 8 + l.val / 160 % 8, by omega⟩ x))
        (Y (Proc.devRef .tc main_v54) (ix4 b ⟨l.val / 1280, by omega⟩ ⟨t.val * 8 + l.val / 160 % 8, by omega⟩ 0))
      * Y (Proc.devRef .tc main_v7) (ix4 0 ⟨l.val / 1280, by omega⟩ 0 0)
      * Y (Proc.devRef .tc main_v2_3) (ix4 b x ⟨l.val / 1280, by omega⟩ ⟨l.val % 160, by omega⟩)) : EReal) := by
  after_reads_simp
  pointwise

/-- The value scales reach the last stretch spread over the heads. -/
theorem v7_apply : (StableHlo.after preOps X (Proc.devRef .tc main_v7) : FVec Ideal S1x6x1x1 .f32) (ix4 0 g 0 0) = vsIn X (ix1 g) := by
  after_reads_simp
  pointwise

/-- The new values reach the last stretch unchanged. -/
theorem v2_3_eq : StableHlo.after preOps X (Proc.devRef .tc main_v2_3) = vnIn X := by
  after_reads_simp

/-- The cached values reach the last stretch unchanged. -/
theorem v2_5_eq : StableHlo.after preOps X (Proc.devRef .tc main_v2_5) = cvIn X := by
  after_reads_simp

/-- The scores against the cache. -/
theorem sC_row (t : Fin 1536) : sC X (ix4 b g n t) =
    Attend.scoreC (lenIn X (ix1 b)) (ksIn X (ix1 g)) (qRow X b g n) (fun t d => ckIn X (ix4 b t g d)) t := by
  rw [sC_apply, mk_apply, rC_apply, mul_assoc]
  rfl

/-- The scores against the new keys. -/
theorem sN_row (t : Fin 12) : sN X (ix4 b g n t) =
    Attend.scoreN n (ksIn X (ix1 g)) (qRow X b g n) (fun t d => knIn X (ix4 b t g d)) t := by
  rw [sN_apply, cs_apply, rN_apply, mul_assoc]
  rfl

/-- The operations are those before the last stretch, then the last stretch. -/
theorem tail_split : [hostOps1, hostOps1_1, hostOps1_2, hostOps1_3, hostOps1_4, hostOps1_5, hostOps1_6, hostOps1_7, hostOps1_8].flatten
    = (preOps ++ hostOps1_8 : List (HloOp τ sig (Elt Ideal))) := by
  rw [← List.flatten_concat]
  rfl

/-- The attention output of the reference: the reference form of the attention row. -/
theorem out_row (t : Fin 12) (l : Fin 7680) :
    (StableHlo.after [hostOps1, hostOps1_1, hostOps1_2, hostOps1_3, hostOps1_4, hostOps1_5, hostOps1_6, hostOps1_7, hostOps1_8].flatten
      X (Proc.devRef .tc main_v71) : FVec Ideal S192x12x7680 .bf16) (ix3 b t l) =
    Attend.outR
      (Attend.scoreC (lenIn X (ix1 b)) (ksIn X (ix1 ⟨l.val / 1280, by omega⟩))
        (qRow X b ⟨l.val / 1280, by omega⟩ ⟨t.val * 8 + l.val / 160 % 8, by omega⟩)
        fun t d => ckIn X (ix4 b t ⟨l.val / 1280, by omega⟩ d))
      (Attend.scoreN ⟨t.val * 8 + l.val / 160 % 8, by omega⟩ (ksIn X (ix1 ⟨l.val / 1280, by omega⟩))
        (qRow X b ⟨l.val / 1280, by omega⟩ ⟨t.val * 8 + l.val / 160 % 8, by omega⟩)
        fun t d => knIn X (ix4 b t ⟨l.val / 1280, by omega⟩ d))
      (vsIn X (ix1 ⟨l.val / 1280, by omega⟩))
      (fun t => cvIn X (ix4 b t ⟨l.val / 1280, by omega⟩ ⟨l.val % 160, by omega⟩))
      fun t => vnIn X (ix4 b t ⟨l.val / 1280, by omega⟩ ⟨l.val % 160, by omega⟩) := by
  generalize hg : (⟨l.val / 1280, by omega⟩ : Fin 6) = g
  generalize hn : (⟨t.val * 8 + l.val / 160 % 8, by omega⟩ : Fin 96) = n
  have key : ∀ (a : Fin 1536 → EReal) (b' : Fin 12 → EReal), (∀ t, sC X (ix4 b g n t) = a t) → (∀ t, sN X (ix4 b g n t) = b' t) →
      (∀ t, eC X (ix4 b g n t) = Attend.wC a b' t) ∧ (∀ t, eN X (ix4 b g n t) = Attend.wN a b' t) ∧
        dn X (ix4 b g n 0) = if Attend.den a b' = 0 then 1 else Attend.den a b' := by
    intro a b' ha hb
    have hC : ∀ t, eC X (ix4 b g n t) = Attend.wC a b' t := fun t => by
      rw [eC_apply, mx_apply, Attend.wC]; simp only [ha, hb]
    have hN : ∀ t, eN X (ix4 b g n t) = Attend.wN a b' t := fun t => by
      rw [eN_apply, mx_apply, Attend.wN]; simp only [ha, hb]
    refine ⟨hC, hN, ?_⟩
    rw [dn_apply, den_apply, Attend.den]
    simp only [hC, hN]
  obtain ⟨hC, hN, hd⟩ := key _ _ (sC_row X b g n) (sN_row X b g n)
  rw [tail_split, StableHlo.after_append, last_apply, hg, hn, v7_apply, v2_3_eq, v2_5_eq]
  change (∑ x, Ideal.div (eC X (ix4 b g n x)) (dn X (ix4 b g n 0)) * _ * _) + (∑ x, Ideal.div (eN X (ix4 b g n x)) (dn X (ix4 b g n 0)) * _ * _) = _
  simp only [hC, hN, hd]
  rfl

end Cert.ReferenceIdeal.Value

end
-- ==== Proof.RefRun.lean ====
/-
  The reference's results as functions of its arguments: what its kernel leaves in each array, and from that the run of the
  whole program.
-/
module

public import proofs.«01_k».proof.Proof.RefTail

@[expose] public section

set_option maxRecDepth 16384

noncomputable section

namespace Cert.ReferenceIdeal.Value

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg) (c : Dev nD)

/-- The queries a device is launched with. -/
abbrev argQ : FVec Ideal S192x12x7680 .bf16 := m ((c.tc : Thread nD τ).loc main_arg0)

/-- The new keys a device is launched with. -/
abbrev argK : FVec Ideal S192x12x6x160 .bf16 := m ((c.tc : Thread nD τ).loc main_arg1)

/-- The new values a device is launched with. -/
abbrev argV : FVec Ideal S192x12x6x160 .bf16 := m ((c.tc : Thread nD τ).loc main_arg2)

/-- The cached keys a device is launched with. -/
abbrev argCk : FVec Ideal S192x1536x6x160 .fp8e4m3 := m ((c.tc : Thread nD τ).loc main_arg3)

/-- The cached values a device is launched with. -/
abbrev argCv : FVec Ideal S192x1536x6x160 .fp8e4m3 := m ((c.tc : Thread nD τ).loc main_arg4)

/-- The key scales a device is launched with. -/
abbrev argKs : FVec Ideal S6 .f32 := m ((c.tc : Thread nD τ).loc main_arg5)

/-- The value scales a device is launched with. -/
abbrev argVs : FVec Ideal S6 .f32 := m ((c.tc : Thread nD τ).loc main_arg6)

/-- The sequence lengths a device is launched with. -/
abbrev argLen : IVec S192 32 := m ((c.tc : Thread nD τ).loc main_arg7)

/-- Query row `n` of head `g` of sequence `b`. -/
def argQRow (b : Fin 192) (g : Fin 6) (n : Fin 96) (d : Fin 160) : EReal :=
  argQ m c (ix3 b ⟨n.val / 8, by omega⟩ ⟨g.val * 1280 + n.val % 8 * 160 + d.val, by omega⟩)

/-- The key scales as the column the kernel of the reference reads. -/
theorem keyScales_read (g : Fin 6) : (V m c main_v0 : FVec Ideal S6x1 .f32) (ix2 g 0) = argKs m c (ix1 g) := by
  show (StableHlo.after hostOps0 (fun b => m (c, b)) (Proc.devRef .tc main_v0) : FVec Ideal S6x1 .f32) (ix2 g 0) = _
  after_reads_simp
  pointwise

/-- The value scales as the column the kernel of the reference reads. -/
theorem valueScales_read (g : Fin 6) : (V m c main_v1 : FVec Ideal S6x1 .f32) (ix2 g 0) = argVs m c (ix1 g) := by
  show (StableHlo.after hostOps0 (fun b => m (c, b)) (Proc.devRef .tc main_v1) : FVec Ideal S6x1 .f32) (ix2 g 0) = _
  after_reads_simp
  pointwise

/-- The kernel of the reference has one point, and reads and writes each array whole. -/
theorem idx0 : ∀ t : Fin cfg0.N, win0_0.index t = ![0, 0, 0, 0] ∧ win0_1.index t = ![0, 0, 0, 0] ∧ win0_2.index t = ![0, 0] ∧
    win0_3.index t = ![0, 0] ∧ win0_4.index t = ![0, 0, 0, 0] ∧ win0_5.index t = ![0, 0, 0, 0] ∧ win0_6.index t = ![0, 0, 0, 0] ∧
    win0_7.index t = ![0, 0, 0, 0] ∧ win0_8.index t = ![0, 0, 0, 0] ∧ win0_9.index t = ![0, 0, 0, 0] ∧
    win0_10.index t = ![0, 0, 0, 0] ∧ win0_11.index t = ![0, 0, 0, 0] :=
  (by decide +kernel : ∀ t : Fin grid0.N, _)

/-- What the kernel of the reference leaves in its array `k_codes`. -/
theorem k_codes_arr : (dats m 0 c).arrAt 6 cfg0.N = (k0_pay4 (V m c main_v0) (argK m c) : FVec Ideal S192x12x6x160 .fp8e4m3) := by
  refine (dats m 0 c).arrAt_eq_of_after_last 6 t0_0 (by decide +kernel) _ fun j => ?_
  blk_simp
  rw [after0_6]
  frame_out
  blk_point [iblk, V, idx0 t0_0]

/-- What the kernel of the reference leaves in its array `v_codes`. -/
theorem v_codes_arr : (dats m 0 c).arrAt 7 cfg0.N = (k0_pay5 (V m c main_v1) (argV m c) : FVec Ideal S192x12x6x160 .fp8e4m3) := by
  refine (dats m 0 c).arrAt_eq_of_after_last 7 t0_0 (by decide +kernel) _ fun j => ?_
  blk_simp
  rw [after0_7]
  frame_out
  blk_point [iblk, V, idx0 t0_0]

/-- What the kernel of the reference leaves in its array `k_new`. -/
theorem k_new_arr : (dats m 0 c).arrAt 8 cfg0.N = (k0_pay6 (V m c main_v0) (argK m c) : FVec Ideal S192x12x6x160 .bf16) := by
  refine (dats m 0 c).arrAt_eq_of_after_last 8 t0_0 (by decide +kernel) _ fun j => ?_
  blk_simp
  rw [after0_8]
  frame_out
  blk_point [iblk, V, idx0 t0_0]

/-- What the kernel of the reference leaves in its array `v_new`. -/
theorem v_new_arr : (dats m 0 c).arrAt 9 cfg0.N = (k0_pay1 (k0_pay5 (V m c main_v1) (argV m c)) : FVec Ideal S192x12x6x160 .bf16) := by
  refine (dats m 0 c).arrAt_eq_of_after_last 9 t0_0 (by decide +kernel) _ fun j => ?_
  blk_simp
  rw [after0_9]
  frame_out
  blk_point [iblk, V, idx0 t0_0]

/-- What the kernel of the reference leaves in its array `k_cached`. -/
theorem k_cached_arr : (dats m 0 c).arrAt 10 cfg0.N = (k0_pay2 (argCk m c) : FVec Ideal S192x1536x6x160 .bf16) := by
  refine (dats m 0 c).arrAt_eq_of_after_last 10 t0_0 (by decide +kernel) _ fun j => ?_
  blk_simp
  rw [after0_10]
  frame_out
  blk_point [iblk, V, idx0 t0_0]

/-- What the kernel of the reference leaves in its array `v_cached`. -/
theorem v_cached_arr : (dats m 0 c).arrAt 11 cfg0.N = (k0_pay3 (argCv m c) : FVec Ideal S192x1536x6x160 .bf16) := by
  refine (dats m 0 c).arrAt_eq_of_after_last 11 t0_0 (by decide +kernel) _ fun j => ?_
  blk_simp
  rw [after0_11]
  frame_out
  blk_point [iblk, V, idx0 t0_0]

/-- The array `k_codes`, entry by entry: the codes under the scale of the head. -/
theorem k_codes_read (b : Fin 192) (t : Fin 12) (g : Fin 6) (d : Fin 160) :
    ((dats m 0 c).arrAt 6 cfg0.N : FVec Ideal S192x12x6x160 .fp8e4m3) (ix4 b t g d) = Attend.code (argKs m c (ix1 g)) (argK m c (ix4 b t g d)) := by
  rw [k_codes_arr, ← keyScales_read]
  unfold Attend.code
  generalize V m c main_v0 = s
  pointwise [k0_pay4]

/-- The array `v_codes`, entry by entry: the codes under the scale of the head. -/
theorem v_codes_read (b : Fin 192) (t : Fin 12) (g : Fin 6) (d : Fin 160) :
    ((dats m 0 c).arrAt 7 cfg0.N : FVec Ideal S192x12x6x160 .fp8e4m3) (ix4 b t g d) = Attend.code (argVs m c (ix1 g)) (argV m c (ix4 b t g d)) := by
  rw [v_codes_arr, ← valueScales_read]
  unfold Attend.code
  generalize V m c main_v1 = s
  pointwise [k0_pay5]

/-- The array `k_new`, entry by entry: the codes under the scale of the head. -/
theorem k_new_read (b : Fin 192) (t : Fin 12) (g : Fin 6) (d : Fin 160) :
    ((dats m 0 c).arrAt 8 cfg0.N : FVec Ideal S192x12x6x160 .bf16) (ix4 b t g d) = Attend.code (argKs m c (ix1 g)) (argK m c (ix4 b t g d)) := by
  rw [k_new_arr, ← keyScales_read]
  unfold Attend.code
  generalize V m c main_v0 = s
  pointwise [k0_pay6, k0_pay4]

/-- The array `v_new`, entry by entry: the codes under the scale of the head. -/
theorem v_new_read (b : Fin 192) (t : Fin 12) (g : Fin 6) (d : Fin 160) :
    ((dats m 0 c).arrAt 9 cfg0.N : FVec Ideal S192x12x6x160 .bf16) (ix4 b t g d) = Attend.code (argVs m c (ix1 g)) (argV m c (ix4 b t g d)) := by
  rw [v_new_arr, ← valueScales_read]
  unfold Attend.code
  generalize V m c main_v1 = s
  pointwise [k0_pay1, k0_pay5]

/-- The array `k_cached` is the cache itself. -/
theorem k_cached_read (b : Fin 192) (t : Fin 1536) (g : Fin 6) (d : Fin 160) :
    ((dats m 0 c).arrAt 10 cfg0.N : FVec Ideal S192x1536x6x160 .bf16) (ix4 b t g d) = argCk m c (ix4 b t g d) := by
  rw [k_cached_arr]
  rfl

/-- The array `v_cached` is the cache itself. -/
theorem v_cached_read (b : Fin 192) (t : Fin 1536) (g : Fin 6) (d : Fin 160) :
    ((dats m 0 c).arrAt 11 cfg0.N : FVec Ideal S192x1536x6x160 .bf16) (ix4 b t g d) = argCv m c (ix4 b t g d) := by
  rw [v_cached_arr]
  rfl

/-- The buffers as the kernel of the reference leaves them. -/
def mid : Valuation τ sig (Elt Ideal) :=
  Pipeline.withArrays (cfgs 0).spec c (V0 m c) fun w => (dats m 0 c).arrAt w (cfgs 0).N

/-- An array of the kernel of the reference, after it. -/
theorem mid_arr (w : Fin (cfgs 0).W) : mid m c (Proc.devRef .tc (Pipeline.arrRef spec0 w)) = (dats m 0 c).arrAt w (cfgs 0).N := by
  unfold mid; exact Pipeline.withArrays_arr spec0 launch0.win.arr_inj c _ _ w

/-- A buffer that is no array of the kernel of the reference is as before it. -/
theorem mid_of_ne (b : Ref sig .tc) (hb : ∀ w, Pipeline.arrRef spec0 w ≠ b) : mid m c (Proc.devRef .tc b) = V0 m c (Proc.devRef .tc b) := by
  unfold mid; exact Pipeline.withArrays_of_ne spec0 c _ _ b hb

/-- The attention result of the reference: the reference form of the attention row of its sequence, head and query row. -/
theorem out_result (b : Fin 192) (t : Fin 12) (l : Fin 7680) :
    (Pipeline.afterTail₀ cfgs (dats m) 0 (V0 m) [hostOps1, hostOps1_1, hostOps1_2, hostOps1_3, hostOps1_4, hostOps1_5, hostOps1_6,
      hostOps1_7, hostOps1_8] c main_v71 : FVec Ideal S192x12x7680 .bf16) (ix3 b t l) =
    Attend.outR
      (Attend.scoreC (argLen m c (ix1 b)) (argKs m c (ix1 ⟨l.val / 1280, by omega⟩))
        (argQRow m c b ⟨l.val / 1280, by omega⟩ ⟨t.val * 8 + l.val / 160 % 8, by omega⟩)
        fun t d => argCk m c (ix4 b t ⟨l.val / 1280, by omega⟩ d))
      (Attend.scoreN ⟨t.val * 8 + l.val / 160 % 8, by omega⟩ (argKs m c (ix1 ⟨l.val / 1280, by omega⟩))
        (argQRow m c b ⟨l.val / 1280, by omega⟩ ⟨t.val * 8 + l.val / 160 % 8, by omega⟩)
        fun t d => Attend.code (argKs m c (ix1 ⟨l.val / 1280, by omega⟩)) (argK m c (ix4 b t ⟨l.val / 1280, by omega⟩ d)))
      (argVs m c (ix1 ⟨l.val / 1280, by omega⟩))
      (fun t => argCv m c (ix4 b t ⟨l.val / 1280, by omega⟩ ⟨l.val % 160, by omega⟩))
      fun t => Attend.code (argVs m c (ix1 ⟨l.val / 1280, by omega⟩))
        (argV m c (ix4 b t ⟨l.val / 1280, by omega⟩ ⟨l.val % 160, by omega⟩)) := by
  refine (out_row (mid m c) b t l).trans ?_
  have hlen : lenIn (mid m c) = argLen m c := (mid_of_ne m c main_arg7 (by decide)).trans (V_main_arg7 m c)
  have hks : ksIn (mid m c) = argKs m c := (mid_of_ne m c main_arg5 (by decide)).trans (V_main_arg5 m c)
  have hvs : vsIn (mid m c) = argVs m c := (mid_of_ne m c main_arg6 (by decide)).trans (V_main_arg6 m c)
  have hq : qIn (mid m c) = argQ m c := (mid_of_ne m c main_arg0 (by decide)).trans (V_main_arg0 m c)
  have hqr : ∀ g n, qRow (mid m c) b g n = argQRow m c b g n := fun g n => by unfold qRow argQRow; rw [hq]
  have hck : ∀ t g d, ckIn (mid m c) (ix4 b t g d) = argCk m c (ix4 b t g d) := fun t g d =>
    (congrFun (mid_arr m c 10) _).trans (k_cached_read m c b t g d)
  have hcv : ∀ t g d, cvIn (mid m c) (ix4 b t g d) = argCv m c (ix4 b t g d) := fun t g d =>
    (congrFun (mid_arr m c 11) _).trans (v_cached_read m c b t g d)
  have hkn : ∀ t g d, knIn (mid m c) (ix4 b t g d) = Attend.code (argKs m c (ix1 g)) (argK m c (ix4 b t g d)) := fun t g d =>
    (congrFun (mid_arr m c 8) _).trans (k_new_read m c b t g d)
  have hvn : ∀ t g d, vnIn (mid m c) (ix4 b t g d) = Attend.code (argVs m c (ix1 g)) (argV m c (ix4 b t g d)) := fun t g d =>
    (congrFun (mid_arr m c 9) _).trans (v_new_read m c b t g d)
  simp only [hlen, hks, hvs, hqr, hck, hcv, hkn, hvn]

/-- The run of the reference: it terminates, its first result buffer holds what the operations after its kernel leave, the other
    two what its kernel leaves, and the argument buffers are as launched. -/
theorem run : θ_run defs (onTc (τ := τ) (main (F := Ideal))) ⟨m, fun _ => 0, ρ⟩ (fun r => ∀ c : Dev nD,
      r.2.mem ((c.tc : Thread nD τ).loc main_v71) = Pipeline.afterTail₀ cfgs (dats m) 0 (V0 m) [hostOps1, hostOps1_1, hostOps1_2,
        hostOps1_3, hostOps1_4, hostOps1_5, hostOps1_6, hostOps1_7, hostOps1_8] c main_v71
      ∧ r.2.mem ((c.tc : Thread nD τ).loc main_v2_0) = (dats m 0 c).arrAt 6 cfg0.N
      ∧ r.2.mem ((c.tc : Thread nD τ).loc main_v2_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  run_from run_main m ρ & unchanged m ρ

end Cert.ReferenceIdeal.Value

end
-- ==== Proof.Final.lean ====
/-
  The value claim: at the extended reals, from memories that agree on the arguments and value scales that are at least zero and
  finite, the kernel and the reference both run and leave the same three results.
-/
module

public import proofs.«01_k».proof.Defs
public import proofs.«01_k».proof.Proof.Gen.Pre_v_scale_ok
public import proofs.«01_k».proof.Proof.KernelRun
public import proofs.«01_k».proof.Proof.KernelVal
public import proofs.«01_k».proof.Proof.RefRun

@[expose] public section

set_option maxRecDepth 16384

noncomputable section

namespace Cert.Proof

open Idealize.ShloMosaic Idealize.ShloMosaic.TcCoe Idealize.SL.Sem

/-- The pattern of plus infinity. -/
theorem inf_eq : Ideal.ofBits .f32 0x7F800000#32 = ⊤ := by
  simp [Ideal.ofBits, Ideal.ieee]

/-- The precondition at a head: its value scale is at least zero and below infinity. -/
theorem scale_ok (m : (ℓ : Loc Cert.KernelIdeal.nD Cert.KernelIdeal.τ Cert.KernelIdeal.sig) → Buf (Elt Ideal) ℓ)
    (h : Pre_KernelIdeal_v_scale_ok m) (c : Dev Cert.KernelIdeal.nD) (g : Fin 6) :
    (0 : EReal) ≤ Cert.KernelIdeal.Value.argVs m c (ix1 g) ∧ Cert.KernelIdeal.Value.argVs m c (ix1 g) < (⊤ : EReal) := by
  obtain ⟨h1, h2⟩ := h c
  have h1 := congrFun h1 (ix1 g)
  have h2 := congrFun h2 (ix1 g)
  revert h1 h2
  unfold Cert.Pre_v_scale_ok.fn
  pointwise
  intro h1 h2
  refine ⟨?_, ?_⟩
  · by_contra h
    simp [h] at h1
  · by_contra h
    simp [h, inf_eq] at h2

variable (m : (ℓ : Loc Cert.KernelIdeal.nD Cert.KernelIdeal.τ Cert.KernelIdeal.sig) → Buf (Elt Ideal) ℓ)
  (g : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

open Cert.KernelIdeal.Value in
/-- The attention results agree. -/
theorem out_agree (hpre : Pre_KernelIdeal_v_scale_ok m)
    (h0 : Cert.ReferenceIdeal.Value.argQ m' c = argQ m c) (h1 : Cert.ReferenceIdeal.Value.argK m' c = argK m c)
    (h2 : Cert.ReferenceIdeal.Value.argV m' c = argV m c) (h3 : Cert.ReferenceIdeal.Value.argCk m' c = argCk m c)
    (h4 : Cert.ReferenceIdeal.Value.argCv m' c = argCv m c) (h5 : Cert.ReferenceIdeal.Value.argKs m' c = argKs m c)
    (h6 : Cert.ReferenceIdeal.Value.argVs m' c = argVs m c) (h7 : Cert.ReferenceIdeal.Value.argLen m' c = argLen m c) :
    (Pipeline.afterTail₀ Cert.ReferenceIdeal.cfgs (Cert.ReferenceIdeal.Gen.dats m') 0 (Cert.ReferenceIdeal.Gen.V0 m')
      [Cert.ReferenceIdeal.Gen.hostOps1, Cert.ReferenceIdeal.Gen.hostOps1_1, Cert.ReferenceIdeal.Gen.hostOps1_2,
        Cert.ReferenceIdeal.Gen.hostOps1_3, Cert.ReferenceIdeal.Gen.hostOps1_4, Cert.ReferenceIdeal.Gen.hostOps1_5,
        Cert.ReferenceIdeal.Gen.hostOps1_6, Cert.ReferenceIdeal.Gen.hostOps1_7, Cert.ReferenceIdeal.Gen.hostOps1_8] c
      Cert.ReferenceIdeal.main_v71 : FVec Ideal Cert.KernelIdeal.S192x12x7680 .bf16) =
    Cert.KernelIdeal.Gen.W5 m g c (Proc.devRef .tc Cert.KernelIdeal.main_v16) := by
  funext i
  idx_vars i
  refine (Cert.ReferenceIdeal.Value.out_result m' c _ _ _).trans (Eq.trans ?_ (out_result m g c _ _ _).symm)
  have hq : ∀ b g n, Cert.ReferenceIdeal.Value.argQRow m' c b g n = argQRow m c b g n := fun b g n => by
    unfold Cert.ReferenceIdeal.Value.argQRow argQRow; rw [h0]
  rw [Attend.outK_eq_outR _ _ (scale_ok m hpre c _).1 (scale_ok m hpre c _).2]
  simp only [h1, h2, h3, h4, h5, h6, h7, hq]

open Cert.KernelIdeal.Value in
/-- The codes of the new keys agree. -/
theorem keys_agree (h1 : Cert.ReferenceIdeal.Value.argK m' c = argK m c) (h5 : Cert.ReferenceIdeal.Value.argKs m' c = argKs m c) :
    ((Cert.ReferenceIdeal.Gen.dats m' 0 c).arrAt 6 Cert.ReferenceIdeal.cfg0.N : FVec Ideal Cert.KernelIdeal.S192x12x6x160 .fp8e4m3) =
      Cert.KernelIdeal.Gen.W5 m g c (Proc.devRef .tc Cert.KernelIdeal.main_v17) := by
  funext i
  idx_vars i
  refine (Cert.ReferenceIdeal.Value.k_codes_read m' c _ _ _ _).trans (Eq.trans ?_ (keys_result m g c _ _ _ _).symm)
  rw [h1, h5]

open Cert.KernelIdeal.Value in
/-- The codes of the new values agree. -/
theorem values_agree (h2 : Cert.ReferenceIdeal.Value.argV m' c = argV m c) (h6 : Cert.ReferenceIdeal.Value.argVs m' c = argVs m c) :
    ((Cert.ReferenceIdeal.Gen.dats m' 0 c).arrAt 7 Cert.ReferenceIdeal.cfg0.N : FVec Ideal Cert.KernelIdeal.S192x12x6x160 .fp8e4m3) =
      Cert.KernelIdeal.Gen.W5 m g c (Proc.devRef .tc Cert.KernelIdeal.main_v18) := by
  funext i
  idx_vars i
  refine (Cert.ReferenceIdeal.Value.v_codes_read m' c _ _ _ _).trans (Eq.trans ?_ (values_result m g c _ _ _ _).symm)
  rw [h2, h6]

/-- The value claim. -/
theorem algebraic : algebraic_KernelIdeal_ReferenceIdeal_pre_v_scale_ok := by
  intro m g m' g' hpre hargs
  refine ⟨_, _, _, Cert.KernelIdeal.Value.run m g, θ_run_mono (Cert.ReferenceIdeal.Value.run m' g') fun r hr c => ?_⟩
  obtain ⟨r0, r1, r2, rest⟩ := hr c
  obtain ⟨h0, h1, h2, h3, h4, h5, h6, h7⟩ := hargs c
  exact ⟨r0.trans (out_agree m g m' c hpre h0 h1 h2 h3 h4 h5 h6 h7), r1.trans (keys_agree m g m' c h1 h5),
    r2.trans (values_agree m g m' c h2 h6), rest⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_v_scale_ok
public import proofs.«01_k».proof.Proof.Final
public import Idealize.ShloMosaic.Adequacy
public import Idealize.ShloMosaic.Init

@[expose] public section

noncomputable section

namespace Cert.Proof

open Idealize.ShloMosaic Idealize.SL.Sem Cert.Kernel

/-- The certificate: the three frames, the preservation and the value claim. -/
theorem claim : Cert.Claim := ⟨Cert.Kernel.Gen.facts, Cert.KernelIdeal.Gen.facts, Cert.ReferenceIdeal.Gen.facts, Cert.Pre_v_scale_ok.Gen.facts, fun m ρ _ => Cert.Kernel.Gen.frame m ρ,
  fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
